-- ==== Defs.lean ====
def Pre_Kernel [hPre_flags01 : Cert.Pre_flags01.Facts] (m : (ℓ : Loc Cert.Kernel.nD Cert.Kernel.τ Cert.Kernel.sig) → Buf (Elt Bits) ℓ) : Prop :=
  ∀ c : Dev Cert.Kernel.nD,
    (Cert.Pre_flags01.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_flags01 : Cert.Pre_flags01.Facts] (m : (ℓ : Loc Cert.KernelIdeal.nD Cert.KernelIdeal.τ Cert.KernelIdeal.sig) → Buf (Elt Ideal) ℓ) : Prop :=
  ∀ c : Dev Cert.KernelIdeal.nD,
    (Cert.Pre_flags01.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_flags01 [hPre_flags01 : Cert.Pre_flags01.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_flags01.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_flags01 : Cert.Pre_flags01.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_flags01 : Cert.Pre_flags01.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_flags01 [hReferenceIdeal : Cert.ReferenceIdeal.Facts] [hPre_flags01 : Cert.Pre_flags01.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_flags01 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_flags01 : Cert.Pre_flags01.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_flags01 : Cert.Pre_flags01.Facts),
    quiescent_Kernel (hKernel := hKernel) (hPre_flags01 := hPre_flags01)
    ∧ quiescent_KernelIdeal (hKernelIdeal := hKernelIdeal) (hPre_flags01 := hPre_flags01)
    ∧ quiescent_ReferenceIdeal (hReferenceIdeal := hReferenceIdeal)
    ∧ quiescent_ReferenceIdeal_pre_flags01 (hReferenceIdeal := hReferenceIdeal) (hPre_flags01 := hPre_flags01)
    ∧ preserves_Kernel_KernelIdeal
    ∧ algebraic_KernelIdeal_ReferenceIdeal (hKernelIdeal := hKernelIdeal) (hReferenceIdeal := hReferenceIdeal) (hPre_flags01 := hPre_flags01)
-- ==== Pre_flags01.lean ====
abbrev S8192x2048 : Shape := ⟨2, ![8192, 2048]⟩
abbrev S8192 : Shape := ⟨1, ![8192]⟩
abbrev S2048x2048 : Shape := ⟨2, ![2048, 2048]⟩
abbrev S2048 : Shape := ⟨1, ![2048]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : FVec F S8192x2048 .f32) (main_arg1 : IVec S8192 32) (main_arg2 : FVec F S2048x2048 .f32) (main_arg3 : FVec F S2048 .f32) (main_arg4 : FVec F S2048x2048 .f32) (main_arg5 : FVec F S2048 .f32) : IVec S8192 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 32 := constantI S_ 32 1#32
  let main_v2 : IVec S8192 32 := broadcastInDim S8192 ![] bcast_S_S8192 main_c_0
  let main_v3 : IVec S8192 1 := cmpi .sle main_arg1 main_v2
  let main_v4 : IVec S8192 1 := andi main_v1 main_v3
  main_v4
-- ==== Kernel.lean ====
abbrev S8192x2048 : Shape := ⟨2, ![8192, 2048]⟩
abbrev S8192 : Shape := ⟨1, ![8192]⟩
abbrev S2048x2048 : Shape := ⟨2, ![2048, 2048]⟩
abbrev S2048 : Shape := ⟨1, ![2048]⟩
abbrev S1x2048x2048 : Shape := ⟨3, ![1, 2048, 2048]⟩
abbrev S2x2048x2048 : Shape := ⟨3, ![2, 2048, 2048]⟩
abbrev S1x2048 : Shape := ⟨2, ![1, 2048]⟩
abbrev S2x2048 : Shape := ⟨2, ![2, 2048]⟩
abbrev S2x1x2048 : Shape := ⟨3, ![2, 1, 2048]⟩
abbrev S512x16 : Shape := ⟨2, ![512, 16]⟩
abbrev S16 : Shape := ⟨1, ![16]⟩
abbrev S16x16 : Shape := ⟨2, ![16, 16]⟩
abbrev S_ : Shape := ⟨0, ![]⟩
abbrev S1x16 : Shape := ⟨2, ![1, 16]⟩
abbrev S512x16x1 : Shape := ⟨3, ![512, 16, 1]⟩
abbrev S8 : Shape := ⟨1, ![8]⟩
abbrev S1x1x8 : Shape := ⟨3, ![1, 1, 8]⟩
abbrev S512x16x8 : Shape := ⟨3, ![512, 16, 8]⟩
abbrev S512x128 : Shape := ⟨2, ![512, 128]⟩
abbrev S65536x2x128 : Shape := ⟨3, ![65536, 2, 128]⟩
abbrev S67584x2x128 : Shape := ⟨3, ![67584, 2, 128]⟩
abbrev S16x128 : Shape := ⟨2, ![16, 128]⟩
abbrev S128x2x128 : Shape := ⟨3, ![128, 2, 128]⟩
abbrev S1x128 : Shape := ⟨2, ![1, 128]⟩
abbrev S128 : Shape := ⟨1, ![128]⟩
abbrev S8448x2048 : Shape := ⟨2, ![8448, 2048]⟩
abbrev S256x2048 : Shape := ⟨2, ![256, 2048]⟩
abbrev S1 : Shape := ⟨1, ![1]⟩
abbrev S1x1x2048 : Shape := ⟨3, ![1, 1, 2048]⟩

abbrev nBuf : Table → Nat
  | .hbm => 35
  | .local .tc .vmem => 8
  | .local .tc .smem => 1
  | .local .scVector .vmem => 9
  | _ => 0

abbrev bufTy : (tb : Table) → Fin (nBuf tb) → BufTy
  | .hbm, ⟨0, _⟩ => ⟨S8192x2048, .f32⟩
  | .hbm, ⟨1, _⟩ => ⟨S8192, .i32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S1x2048x2048, .f32⟩
  | .hbm, ⟨7, _⟩ => ⟨S1x2048x2048, .f32⟩
  | .hbm, ⟨8, _⟩ => ⟨S2x2048x2048, .f32⟩
  | .hbm, ⟨9, _⟩ => ⟨S2x2048x2048, .bf16⟩
  | .hbm, ⟨10, _⟩ => ⟨S1x2048, .f32⟩
  | .hbm, ⟨11, _⟩ => ⟨S1x2048, .f32⟩
  | .hbm, ⟨12, _⟩ => ⟨S2x2048, .f32⟩
  | .hbm, ⟨13, _⟩ => ⟨S2x1x2048, .f32⟩
  | .hbm, ⟨14, _⟩ => ⟨S512x16, .i32⟩
  | .hbm, ⟨15, _⟩ => ⟨S16, .i32⟩
  | .hbm, ⟨16, _⟩ => ⟨S512x16x1, .i32⟩
  | .hbm, ⟨17, _⟩ => ⟨S_, .i32⟩
  | .hbm, ⟨18, _⟩ => ⟨S512x16x1, .i32⟩
  | .hbm, ⟨19, _⟩ => ⟨S512x16x1, .i32⟩
  | .hbm, ⟨20, _⟩ => ⟨S8, .i32⟩
  | .hbm, ⟨21, _⟩ => ⟨S1x1x8, .i32⟩
  | .hbm, ⟨22, _⟩ => ⟨S512x16x8, .i32⟩
  | .hbm, ⟨23, _⟩ => ⟨S512x16x8, .i32⟩
  | .hbm, ⟨24, _⟩ => ⟨S512x16x8, .i32⟩
  | .hbm, ⟨25, _⟩ => ⟨S512x128, .i32⟩
  | .hbm, ⟨26, _⟩ => ⟨S65536x2x128, .f32⟩
  | .hbm, ⟨27, _⟩ => ⟨S67584x2x128, .f32⟩
  | .hbm, ⟨28, _⟩ => ⟨S8448x2048, .f32⟩
  | .hbm, ⟨29, _⟩ => ⟨S_, .i32⟩
  | .hbm, ⟨30, _⟩ => ⟨S16, .i32⟩
  | .hbm, ⟨31, _⟩ => ⟨S8448x2048, .f32⟩
  | .hbm, ⟨32, _⟩ => ⟨S67584x2x128, .f32⟩
  | .hbm, ⟨33, _⟩ => ⟨S65536x2x128, .f32⟩
  | .hbm, ⟨34, _⟩ => ⟨S8192x2048, .f32⟩
  | .local .tc .vmem, ⟨0, _⟩ => ⟨S256x2048, .f32⟩
  | .local .tc .vmem, ⟨1, _⟩ => ⟨S256x2048, .f32⟩
  | .local .tc .vmem, ⟨2, _⟩ => ⟨S1x2048x2048, .bf16⟩
  | .local .tc .vmem, ⟨3, _⟩ => ⟨S1x2048x2048, .bf16⟩
  | .local .tc .vmem, ⟨4, _⟩ => ⟨S1x1x2048, .f32⟩
  | .local .tc .vmem, ⟨5, _⟩ => ⟨S1x1x2048, .f32⟩
  | .local .tc .vmem, ⟨6, _⟩ => ⟨S256x2048, .f32⟩
  | .local .tc .vmem, ⟨7, _⟩ => ⟨S256x2048, .f32⟩
  | .local .tc .smem, ⟨0, _⟩ => ⟨S16, .i32⟩
  | .local .scVector .vmem, ⟨0, _⟩ => ⟨S8192, .i32⟩
  | .local .scVector .vmem, ⟨1, _⟩ => ⟨S16x16, .i32⟩
  | .local .scVector .vmem, ⟨2, _⟩ => ⟨S16, .i32⟩
  | .local .scVector .vmem, ⟨3, _⟩ => ⟨S16x128, .i32⟩
  | .local .scVector .vmem, ⟨4, _⟩ => ⟨S128x2x128, .f32⟩
  | .local .scVector .vmem, ⟨5, _⟩ => ⟨S128x2x128, .f32⟩
  | .local .scVector .vmem, ⟨6, _⟩ => ⟨S16x128, .i32⟩
  | .local .scVector .vmem, ⟨7, _⟩ => ⟨S128x2x128, .f32⟩
  | .local .scVector .vmem, ⟨8, _⟩ => ⟨S128x2x128, .f32⟩
  | _, _ => ⟨S8192x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_0 : Ref sig .tc := ⟨.hbm, 29, rfl⟩
abbrev main_v21 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v22 : Ref sig .tc := ⟨.smem, 0, rfl⟩
abbrev main_arg1_scv : Ref sig .scVector := ⟨.hbm, 1, rfl⟩
abbrev main_v8_0_scv : Ref sig .scVector := ⟨.hbm, 14, rfl⟩
abbrev main_v8_1_scv : Ref sig .scVector := ⟨.hbm, 15, rfl⟩
abbrev main_v18_scv : Ref sig .scVector := ⟨.hbm, 26, rfl⟩
abbrev main_v17_scv : Ref sig .scVector := ⟨.hbm, 25, rfl⟩
abbrev main_v19_scv : Ref sig .scVector := ⟨.hbm, 27, rfl⟩
abbrev main_v24_scv : Ref sig .scVector := ⟨.hbm, 32, rfl⟩
abbrev main_v25_scv : Ref sig .scVector := ⟨.hbm, 33, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_stg3_0 : Ref sig .tc := ⟨.vmem, 6, rfl⟩
abbrev cc2_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc3_scratch0 : Ref sig .scVector := ⟨.vmem, 6, rfl⟩
abbrev cc3_scratch1 : Ref sig .scVector := ⟨.vmem, 7, rfl⟩
abbrev cc3_scratch2 : Ref sig .scVector := ⟨.vmem, 8, rfl⟩
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c512_i32 : BitVec 32 := 512#32
  let v3 : BitVec 32 := Scalar.addi c0_i32_1 c512_i32
  let c1_i32 : BitVec 32 := 1#32
  ⟨c0_i32_1, v3, c1_i32⟩
def k0_off1 (k0_t1 : Fin k0_t1_loop.trips) : Fin 1 → Nat :=
  let c0_i32_1 : BitVec 32 := 0#32
  let c1_i32 : BitVec 32 := 1#32
  let arg8 : BitVec 32 := Scf.iv c0_i32_1 c1_i32 k0_t1
  let c16_i32_110 : BitVec 32 := 16#32
  let v462 : BitVec 32 := Scalar.muli arg8 c16_i32_110
  let v463 : Index := Scalar.indexCast v462
  ![v463.toNat]
def k0_off2 (i : grid0.Coords) (c0_i32_6 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v10 : BitVec 32 := Scalar.addi v2 c0_i32_6
  let v11 : Index := Scalar.indexCast v10
  ![v11.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_107 : BitVec 32 := 16#32
  let v458 : BitVec 32 := Scalar.muli v1 c16_i32_107
  let c0_i32_110_r1 : BitVec 32 := 0#32
  ![v458.toNat, 0]
abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_290_r0 : BitVec 32 := 0#32
  ![v3.toNat, 0]
def k1_off2 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c8_i32 : BitVec 32 := 8#32
  let v4 : BitVec 32 := Scalar.muli v2 c8_i32
  let c0_i32 : BitVec 32 := 0#32
  let c0_i32_0 : BitVec 32 := 0#32
  ![v4.toNat, 0, 0]
def k1_off3 (i : grid1.Coords) (c16_i32_3 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v7 : BitVec 32 := Scalar.addi v2 c16_i32_3
  let c8_i32_4 : BitVec 32 := 8#32
  let v8 : BitVec 32 := Scalar.muli v7 c8_i32_4
  let c0_i32_5 : BitVec 32 := 0#32
  let c0_i32_6 : BitVec 32 := 0#32
  ![v8.toNat, 0, 0]
abbrev grid2 : Pipeline.Grid := ⟨1, ![33], ![false]⟩

abbrev pre2 : Pipeline.Prefetch sig := ⟨1, ![main_v22.idx], fun | 0 => main_v22.names | ⟨_ + 1, h⟩ => absurd h (Nat.not_lt.2 (Nat.le_add_left _ _)), fun | 0 => rfl | ⟨_ + 1, h⟩ => absurd h (Nat.not_lt.2 (Nat.le_add_left _ _))⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (inb_S16_S1_0 : ∀ a, (![0] : Fin 1 → Nat) a + S1.size a ≤ S16.size a) (numel1_S1 : S1.numel = 1) (pf : pre2.Contents (Elt F)) (i : grid2.Coords) : Fin 3 → Nat :=
  let arg0 : BitVec 32 := BitVec.ofNat 32 (i 0).val
  let c0 : Index := 0#32
  let v0 : BitVec 32 := pf.at 0 (Rect.unit (s := S16) ![0] S1.size inb_S16_S1_0) numel1_S1
  let v1 : BitVec 1 := Scalar.cmpi .sge arg0 v0
  let c1_i32 : BitVec 32 := 1#32
  let c0_i32 : BitVec 32 := 0#32
  let v2 : BitVec 32 := Scalar.select v1 c1_i32 c0_i32
  let c0_i32_0 : BitVec 32 := 0#32
  let c0_i32_1 : BitVec 32 := 0#32
  let c0_i32_2 : BitVec 32 := 0#32
  ![v2.toNat, c0_i32_0.toNat, c0_i32_1.toNat]

def cc2_transform_2 (inb_S16_S1_0 : ∀ a, (![0] : Fin 1 → Nat) a + S1.size a ≤ S16.size a) (numel1_S1 : S1.numel = 1) (pf : pre2.Contents (Elt F)) (i : grid2.Coords) : Fin 3 → Nat :=
  let arg0 : BitVec 32 := BitVec.ofNat 32 (i 0).val
  let c0 : Index := 0#32
  let v0 : BitVec 32 := pf.at 0 (Rect.unit (s := S16) ![0] S1.size inb_S16_S1_0) numel1_S1
  let v1 : BitVec 1 := Scalar.cmpi .sge arg0 v0
  let c1_i32 : BitVec 32 := 1#32
  let c0_i32 : BitVec 32 := 0#32
  let v2 : BitVec 32 := Scalar.select v1 c1_i32 c0_i32
  let c0_i32_0 : BitVec 32 := 0#32
  let c0_i32_1 : BitVec 32 := 0#32
  let c0_i32_2 : BitVec 32 := 0#32
  ![v2.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 16], ![false, false]⟩

def k3_off1 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_291_r0 : BitVec 32 := 0#32
  ![v3.toNat, 0]
def k3_off2 (i : grid3.Coords) (c0_i32_13 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v13 : BitVec 32 := Scalar.addi v2 c0_i32_13
  let c8_i32 : BitVec 32 := 8#32
  let v14 : BitVec 32 := Scalar.muli v13 c8_i32
  let c0_i32_14 : BitVec 32 := 0#32
  let c0_i32_15 : BitVec 32 := 0#32
  ![v14.toNat, 0, 0]
abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S8192x2048 : Shape := ⟨2, ![8192, 2048]⟩
abbrev S8192 : Shape := ⟨1, ![8192]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S2048x2048, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S2048x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x1, .i1⟩
  | .hbm, ⟨20, _⟩ => ⟨S8192x2048, .i1⟩
  | .hbm, ⟨21, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Setup.lean ====
/-
  The program as the SparseCore launch sees it: the three calls' configuration, the body table, the ghost state, and the
  memory references its host code and kernels name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Route

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev ΛP : Labels := Pipeline.Sig Λ₀ (Fin 1) fun p => (pcfgs (F := F) p).Adm
abbrev K : SparseCore.Cfg τ sig (ΛP (F := F)) 3 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the launch handshakes' rounds, the TensorCore pipeline's rounds, the transfers' counters. -/
abbrev UH : Type := URounds (GSem nD τ sig) ℕ
abbrev UP : Type := URounds (GSem nD τ sig) Unit
abbrev UU : Type := UH × (UP × Counters)

local notation "𝕄" => MT nD τ sig (HIx 3) (Elt F) ℕ UU ℕ

abbrev EH : Emb UH (MT nD τ sig (HIx 3) (Elt F) ℕ UU ℕ) := embL

end Cert.Proof.Route

end
-- ==== Proof.Lists.lean ====
/-
  A tile's list of row numbers: its rows as the kernels slice them, and the rows of an array they name.
-/
module

public import proofs.«01_k».proof.Proof.Setup
public import Idealize.ShloMosaic.Lib.ValueIdxCore

@[expose] public section

noncomputable section

namespace Cert.Proof.Route

open Cert.KernelIdeal Cert.KernelIdeal.Gen

open Idealize.ShloMosaic Idealize.ShloMosaic.ValueIdx
open Idealize.SL Idealize.SL.RA Idealize.SL.BI

variable {F : FTy → Type} [FloatOps F]

/-- A word as a row of the padded array of sub-rows (its value, where that is a row). -/
def padRow (w : BitVec 32) : Fin 67584 := Fin.ofNat 67584 w.toNat

theorem padRow_val {w : BitVec 32} (h : w.toNat < 67584) : (padRow w).val = w.toNat := Nat.mod_eq_of_lt h

section Rows

variable {k : Kind} {sp : Space} (A : Memref sig k sp S16x128 .i32) (j : Fin 16) (off : Fin 2 → ℕ) (inb : ∀ a, off a + S1x128.size a ≤ S16x128.size a)

/-- Row `off` of a list buffer, as a kernel slices and squeezes it. -/
abbrev lrow : Memref sig k sp S128 .i32 := (A.slice (Rect.unit (s := S16x128) off S1x128.size inb) (fun _ => rfl)).squeeze S128 squeezes_S1x128_S128

theorem lrow_emb (h : off = ![j.val, 0]) (x : S128.Idx) : (lrow A off inb).view.emb x = A.view.emb (ix2 j (x 0)) := by
  subst h
  show ((A.view.slice (Rect.unit (s := S16x128) ![j.val, 0] S1x128.size inb)).reshape S128 squeezes_S1x128_S128.numel_eq).emb x = _
  rw [View.emb_reshape, View.emb_slice]
  show A.view.emb ((Rect.unit (s := S16x128) ![j.val, 0] S1x128.size inb).emb (Shape.reshapeEquiv squeezes_S1x128_S128.numel_eq x)) = _
  congr 1
  rw [Shape.reshapeEquiv_eq_of_rowMajor (y := (ix2 (0 : Fin 1) (x 0) : S1x128.Idx)) squeezes_S1x128_S128.numel_eq (by
    rw [Shape.rowMajor_val_two, Shape.rowMajor_val_one]; simp)]
  funext a
  apply Fin.ext
  rw [Rect.emb_apply]
  match a with
  | 0 => simp
  | 1 => simp

/-- What row `j` of the list holds. -/
theorem lrow_read (h : off = ![j.val, 0]) (f : A.view.ty.Contents (Elt F)) (x : S128.Idx) :
    (lrow A off inb).view.read (Elt F) f x = A.view.read (Elt F) f (ix2 j (x 0)) := by
  rw [View.read_apply, View.read_apply]
  simp only [lrow_emb A j off inb h x]

end Rows

section All

variable {k : Kind} {sp : Space} (A : Memref sig k sp S67584x2x128 .f32)

/-- The whole of the padded array, as a kernel slices it. -/
abbrev padAll : Memref sig k sp S67584x2x128 .f32 :=
  A.slice (Rect.unit (s := S67584x2x128) ![0, 0, 0] S67584x2x128.size inb_S67584x2x128_S67584x2x128_0_0_0) (fun _ => rfl)

theorem padAll_emb (x : S67584x2x128.Idx) : (padAll A).view.emb x = A.view.emb x := by
  show (A.view.slice (Rect.unit (s := S67584x2x128) ![0, 0, 0] S67584x2x128.size inb_S67584x2x128_S67584x2x128_0_0_0)).emb x = _
  rw [View.emb_slice]
  show A.view.emb ((Rect.unit (s := S67584x2x128) ![0, 0, 0] S67584x2x128.size inb_S67584x2x128_S67584x2x128_0_0_0).emb x) = _
  congr 1
  funext a
  apply Fin.ext
  rw [Rect.emb_apply]
  match a with
  | 0 => simp
  | 1 => simp
  | 2 => simp

theorem padAll_read (f : A.view.ty.Contents (Elt F)) (x : S67584x2x128.Idx) :
    (padAll A).view.read (Elt F) f x = A.view.read (Elt F) f x := by
  rw [View.read_apply, View.read_apply]
  simp only [padAll_emb A x]

end All

/-- The rows a list of 128 words names. -/
theorem rows_val (idx : S128.Idx → Elt F .i32) (hn : S128.numel = 128) (h : ∀ x, (idx x).toNat < 67584) (l : Fin 128) :
    (SparseCore.rows idx hn h l).val = (idx (ix1 l)).toNat := by
  unfold SparseCore.rows
  have e : S128.rowMajor.symm (l.cast hn.symm) = ix1 l := by
    rw [Equiv.symm_apply_eq]; apply Fin.ext
    rw [Shape.rowMajor_val_one]; rfl
  show (idx (S128.rowMajor.symm (l.cast hn.symm))).toNat = _
  rw [e]

end Cert.Proof.Route

end
-- ==== Proof.Math.lean ====
/-
  The routing's arithmetic: how many flagged tokens come before a token, the place a token takes, and that a chunk's words
  compute it.
-/
module

public import proofs.«01_k».proof.Proof.Lists

@[expose] public section

noncomputable section

namespace Cert.Proof.Route

open Cert.KernelIdeal Cert.KernelIdeal.Gen

open Idealize.ShloMosaic Idealize.ShloMosaic.ValueIdx

/-- The flags are all zero or one. -/
def Flags (fl : S8192.Idx → BitVec 32) : Prop := ∀ i, fl i = 0#32 ∨ fl i = 1#32

/-- Token `n`'s flag as a number (none beyond the tokens). -/
def bit (fl : S8192.Idx → BitVec 32) (n : ℕ) : ℕ := if h : n < 8192 then (fl (ix1 ⟨n, h⟩)).toNat else 0

/-- How many tokens before token `n` are flagged. -/
def cnt (fl : S8192.Idx → BitVec 32) (n : ℕ) : ℕ := ∑ t ∈ Finset.range n, bit fl t

/-- The flagged tokens' number rounded up to a whole number of blocks of 256 rows, in blocks. -/
def nb (fl : S8192.Idx → BitVec 32) : ℕ := (cnt fl 8192 + 255) / 256

/-- The row token `t` is moved to. -/
def dest (fl : S8192.Idx → BitVec 32) (t : ℕ) : ℕ := if bit fl t = 1 then cnt fl t else 256 * nb fl + (t - cnt fl t)

variable {fl : S8192.Idx → BitVec 32}

theorem bit_le (h : Flags fl) (n : ℕ) : bit fl n ≤ 1 := by
  unfold bit; split
  · rcases h (ix1 ⟨n, ‹_›⟩) with e | e <;> rw [e] <;> decide
  · exact Nat.zero_le _

theorem cnt_succ (n : ℕ) : cnt fl (n + 1) = cnt fl n + bit fl n := Finset.sum_range_succ _ _

theorem cnt_zero : cnt fl 0 = 0 := Finset.sum_range_zero _

theorem cnt_add (a n : ℕ) : cnt fl (a + n) = cnt fl a + ∑ k ∈ Finset.range n, bit fl (a + k) := Finset.sum_range_add _ _ _

theorem cnt_mono {a b : ℕ} (h : a ≤ b) : cnt fl a ≤ cnt fl b := by
  obtain ⟨k, rfl⟩ := Nat.exists_eq_add_of_le h
  rw [cnt_add]; exact Nat.le_add_right _ _

theorem cnt_le (h : Flags fl) (n : ℕ) : cnt fl n ≤ n := by
  induction n with
  | zero => rw [cnt_zero]
  | succ n ih => rw [cnt_succ]; have := bit_le h n; omega

theorem cnt_gap (h : Flags fl) {a b : ℕ} (hab : a ≤ b) : cnt fl b ≤ cnt fl a + (b - a) := by
  obtain ⟨k, rfl⟩ := Nat.exists_eq_add_of_le hab
  induction k with
  | zero => simp
  | succ k ih => rw [← Nat.add_assoc, cnt_succ]; have := bit_le h (a + k); have := ih (Nat.le_add_right _ _); omega

/-- A flagged token's row lies in the first blocks. -/
theorem dest_lt_of_flag (h : Flags fl) {t : ℕ} (ht : t < 8192) (hb : bit fl t = 1) : dest fl t < cnt fl 8192 := by
  unfold dest; rw [if_pos hb]
  have := cnt_mono (fl := fl) (show t + 1 ≤ 8192 by omega)
  rw [cnt_succ t] at this; omega

theorem cnt_le_nb : cnt fl 8192 ≤ 256 * nb fl := by unfold nb; omega

theorem nb_le (h : Flags fl) : nb fl ≤ 32 := by have := cnt_le h 8192; unfold nb; omega

theorem dest_lt (h : Flags fl) {t : ℕ} (ht : t < 8192) : dest fl t < 8448 := by
  by_cases hb : bit fl t = 1
  · have := dest_lt_of_flag h ht hb; have := cnt_le h 8192; omega
  · unfold dest; rw [if_neg hb]
    have hb0 : bit fl t = 0 := by have := bit_le h t; omega
    have h1 := cnt_gap h (show t + 1 ≤ 8192 by omega)
    rw [cnt_succ t] at h1
    have h2 := cnt_le h t
    unfold nb; omega

/-- Which weights a token's row is given to: those of the flagged tokens iff it is flagged. -/
theorem dest_block (h : Flags fl) {t : ℕ} (ht : t < 8192) : dest fl t / 256 < nb fl ↔ bit fl t = 1 := by
  by_cases hb : bit fl t = 1
  · refine ⟨fun _ => hb, fun _ => ?_⟩
    have := dest_lt_of_flag h ht hb; have := cnt_le_nb (fl := fl); omega
  · refine ⟨fun hh => ?_, fun hh => absurd hh hb⟩
    unfold dest at hh; rw [if_neg hb] at hh; omega

/-- No two tokens are moved to one row. -/
theorem dest_inj (h : Flags fl) {s t : ℕ} (hs : s < 8192) (ht : t < 8192) (he : dest fl s = dest fl t) : s = t := by
  have key : ∀ {a b : ℕ}, a < b → b < 8192 → dest fl a ≠ dest fl b := by
    intro a b hab hb he
    have hc := cnt_mono (fl := fl) (show a + 1 ≤ b from hab)
    have hg := cnt_gap h (show a + 1 ≤ b from hab)
    rw [cnt_succ a] at hc hg
    have ha1 := bit_le h a
    have hla := cnt_le h a
    have hlb := cnt_le h b
    by_cases h1 : bit fl a = 1 <;> by_cases h2 : bit fl b = 1
    · unfold dest at he; rw [if_pos h1, if_pos h2] at he; omega
    · have := dest_lt_of_flag h (show a < 8192 by omega) h1
      have := cnt_le_nb (fl := fl)
      have e2 : dest fl b = 256 * nb fl + (b - cnt fl b) := if_neg h2
      omega
    · have := dest_lt_of_flag h hb h2
      have := cnt_le_nb (fl := fl)
      have e2 : dest fl a = 256 * nb fl + (a - cnt fl a) := if_neg h1
      omega
    · unfold dest at he; rw [if_neg h1, if_neg h2] at he; omega
  rcases Nat.lt_trichotomy s t with hl | hl | hl
  · exact absurd he (key hl ht)
  · exact hl
  · exact absurd he.symm (key hl hs)

/-! ## The words -/

/-- A running sum of words is the word of the numbers' sum. -/
theorem foldl_add (v : Fin 16 → BitVec 32) (l : List (Fin 16)) (a : ℕ) :
    l.foldl (fun r k => IntOp.addi r (v k)) (BitVec.ofNat 32 a) = BitVec.ofNat 32 (a + (l.map fun k => (v k).toNat).sum) := by
  induction l generalizing a with
  | nil => simp
  | cons k l ih =>
    rw [List.foldl_cons, show IntOp.addi (BitVec.ofNat 32 a) (v k) = BitVec.ofNat 32 (a + (v k).toNat) by
      rw [BitVec.ofNat_add, BitVec.ofNat_toNat]; simp [IntOp.addi], ih]
    simp [Nat.add_assoc]

/-- The sixteen lanes' running sums. -/
theorem scan_eq (v : IVec S16 32) (i : S16.Idx) (g : ℕ → ℕ) (hg : ∀ k : Fin 16, (v (ix1 k)).toNat = g k.val) :
    scan .sum v i = BitVec.ofNat 32 (∑ k ∈ Finset.range ((i 0).val + 1), g k) := by
  have key : ∀ j : Fin 16, (((List.finRange 16).filter fun k => decide (0 < k.val ∧ k.val ≤ j.val)).foldl
      (fun r k => IntOp.addi r (v (ix1 k))) (v (ix1 0))) = BitVec.ofNat 32 (∑ k ∈ Finset.range (j.val + 1), g k) := by
    intro j
    rw [show v (ix1 0) = BitVec.ofNat 32 ((v (ix1 0)).toNat) by rw [BitVec.ofNat_toNat, BitVec.setWidth_eq], foldl_add (fun k => v (ix1 k))]
    congr 1
    simp only [hg]
    rw [Finset.sum_range_succ']
    fin_cases j <;> simp [List.finRange, List.ofFn, Fin.foldr, Fin.foldr.loop, Finset.sum_range_succ] <;> omega
  refine Eq.trans ?_ (key (i 0))
  unfold scan
  have e : ∀ k : Fin 16, (Shape.ofLane (d := ![16]) k : S16.Idx) = ix1 k := fun k => funext fun a => by rw [Fin.eq_zero a]; rfl
  have e' : (fun (r : BitVec 32) (k : Fin 16) => ScanKind.sum.step r (v (Shape.ofLane (d := ![16]) k))) = fun r k => IntOp.addi r (v (ix1 k)) := by
    funext r k; rw [e]; rfl
  exact congrArg₂ (fun f a => List.foldl f a ((List.finRange 16).filter fun k : Fin 16 => decide (0 < k.val ∧ k.val ≤ (i 0).val))) e' (congrArg v (e 0))

/-- A lane of a chunk's payload, from the chunk's flags, the carried count and the bases. -/
def LANE (v12 : IVec S16 32) (pre car v8 v9 off : BitVec 32) : IVec S16 32 :=
  select (cmpi .eq v12 (broadcast S16 1#32))
    (addi (broadcast S16 pre) (addi (broadcast S16 car) (subi (scan .sum (andi v12 (broadcast S16 1#32))) (andi v12 (broadcast S16 1#32)))))
    (addi (broadcast S16 (Scalar.addi v8 v9))
      (subi (addi (broadcast S16 off) (iota .scVector S16 32 [0] iota_S16_d0_w32_scVector))
        (addi (broadcast S16 car) (subi (scan .sum (andi v12 (broadcast S16 1#32))) (andi v12 (broadcast S16 1#32))))))

/-- Sixteen flags from token `a` on. -/
def CHK (fl : S8192.Idx → BitVec 32) (a : ℕ) : IVec S16 32 := fun x => if h : a + (x 0).val < 8192 then fl (ix1 ⟨a + (x 0).val, h⟩) else 0#32

theorem CHK_toNat (a : ℕ) (x : S16.Idx) : (CHK fl a x).toNat = bit fl (a + (x 0).val) := by unfold CHK bit; split <;> rfl

theorem CHK_flag (h : Flags fl) (a : ℕ) (x : S16.Idx) : CHK fl a x = 0#32 ∨ CHK fl a x = 1#32 := by
  unfold CHK; split
  · exact h _
  · exact .inl rfl

theorem CHK_and (h : Flags fl) (a : ℕ) : andi (CHK fl a) (broadcast S16 1#32) = CHK fl a := by
  funext x
  show IntOp.andi (CHK fl a x) 1#32 = _
  rcases CHK_flag h a x with e | e <;> rw [e] <;> rfl

/-- The sum of a chunk's flags, as its last running sum. -/
theorem CHK_scan (h : Flags fl) (a : ℕ) (x : S16.Idx) :
    scan .sum (andi (CHK fl a) (broadcast S16 1#32)) x = BitVec.ofNat 32 (∑ k ∈ Finset.range ((x 0).val + 1), bit fl (a + k)) := by
  rw [CHK_and h]
  exact scan_eq _ _ (fun k => bit fl (a + k)) fun k => CHK_toNat a (ix1 k)

theorem carry_step (h : Flags fl) (a n c : ℕ) (hn : a + 16 = n) (hc : c = cnt fl a) :
    Scalar.addi (BitVec.ofNat 32 c) (extractAt ![15] (scan .sum (andi (CHK fl a) (broadcast S16 1#32))) inpos_S16_p15) = BitVec.ofNat 32 (cnt fl n) := by
  subst hn hc
  rw [show (extractAt ![15] (scan .sum (andi (CHK fl a) (broadcast S16 1#32))) inpos_S16_p15) = _ from CHK_scan h a (ix1 (15 : Fin 16)), cnt_add]
  show BitVec.ofNat 32 (cnt fl a) + BitVec.ofNat 32 _ = _
  rw [← BitVec.ofNat_add]; rfl

/-- The place of a token without a flag, in words. -/
theorem words (q b c n x e : ℕ) (hce : c ≤ e) (hcb : c ≤ b) (hg : e - c ≤ n + x) (hs : b + n + x < 8192) :
    (BitVec.ofNat 32 q + (BitVec.ofNat 32 b - BitVec.ofNat 32 c)) + ((BitVec.ofNat 32 n + BitVec.ofNat 32 x) - BitVec.ofNat 32 (e - c))
      = BitVec.ofNat 32 (q + (b + n + x - e)) := by
  rw [← BitVec.ofNat_add n, BitVec.ofNat_sub_ofNat_of_le b c (by norm_num; omega) hcb, BitVec.ofNat_sub_ofNat_of_le (n + x) (e - c) (by norm_num; omega) hg,
    ← BitVec.ofNat_add, ← BitVec.ofNat_add]
  congr 1; omega

/-- A tile's chunk of rows: lane `x` of chunk `j` of tile `w` computes its token's row. -/
theorem LANE_eq (h : Flags fl) (b n : ℕ) (hbn : b + n + 16 ≤ 8192) (x : S16.Idx) :
    LANE (CHK fl (b + n)) (BitVec.ofNat 32 (cnt fl b)) (BitVec.ofNat 32 (cnt fl (b + n) - cnt fl b)) (BitVec.ofNat 32 (256 * nb fl))
      (Scalar.subi (BitVec.ofNat 32 b) (BitVec.ofNat 32 (cnt fl b))) (BitVec.ofNat 32 n) x = BitVec.ofNat 32 (dest fl (b + n + (x 0).val)) := by
  have hx : (x 0).val < 16 := (x 0).isLt
  have hs : subi (scan .sum (andi (CHK fl (b + n)) (broadcast S16 1#32))) (andi (CHK fl (b + n)) (broadcast S16 1#32)) x
      = BitVec.ofNat 32 (cnt fl (b + n + (x 0).val) - cnt fl (b + n)) := by
    show IntOp.subi (scan .sum (andi (CHK fl (b + n)) (broadcast S16 1#32)) x) (andi (CHK fl (b + n)) (broadcast S16 1#32) x) = _
    rw [CHK_scan h, CHK_and h, Finset.sum_range_succ, cnt_add (b + n), Nat.add_sub_cancel_left, BitVec.ofNat_add,
      show CHK fl (b + n) x = BitVec.ofNat 32 (bit fl (b + n + (x 0).val)) by rw [← CHK_toNat, BitVec.ofNat_toNat]; simp]
    exact BitVec.add_sub_cancel _ _
  have hm1 := cnt_mono (fl := fl) (show b ≤ b + n by omega)
  have hm2 := cnt_mono (fl := fl) (show b + n ≤ b + n + (x 0).val by omega)
  have hl := cnt_le h (b + n + (x 0).val)
  have hl0 := cnt_le h b
  have hg := cnt_gap h (show b ≤ b + n + (x 0).val by omega)
  have hnb := nb_le h
  have hc : addi (broadcast S16 (BitVec.ofNat 32 (cnt fl (b + n) - cnt fl b))) (subi (scan .sum (andi (CHK fl (b + n)) (broadcast S16 1#32))) (andi (CHK fl (b + n)) (broadcast S16 1#32))) x
      = BitVec.ofNat 32 (cnt fl (b + n + (x 0).val) - cnt fl b) := by
    show (BitVec.ofNat 32 (cnt fl (b + n) - cnt fl b)) + (subi _ _ x) = _
    rw [hs, ← BitVec.ofNat_add]; congr 1; omega
  have hi : iota .scVector S16 32 [0] iota_S16_d0_w32_scVector x = BitVec.ofNat 32 (x 0).val := by
    show BitVec.ofNat 32 _ = _
    congr 1
    simp
  have hq : cmpi .eq (CHK fl (b + n)) (broadcast S16 1#32) x = if bit fl (b + n + (x 0).val) = 1 then 1#1 else 0#1 := by
    rw [← CHK_toNat]
    show IntOp.cmpi .eq (CHK fl (b + n) x) 1#32 = _
    rcases CHK_flag h (b + n) x with e | e <;> rw [e] <;> rfl
  show (if cmpi .eq (CHK fl (b + n)) (broadcast S16 1#32) x = 1#1 then
      BitVec.ofNat 32 (cnt fl b) + (addi (broadcast S16 (BitVec.ofNat 32 (cnt fl (b + n) - cnt fl b))) (subi (scan .sum (andi (CHK fl (b + n)) (broadcast S16 1#32))) (andi (CHK fl (b + n)) (broadcast S16 1#32))) x)
    else (BitVec.ofNat 32 (256 * nb fl) + (BitVec.ofNat 32 b - BitVec.ofNat 32 (cnt fl b))) + ((BitVec.ofNat 32 n + iota .scVector S16 32 [0] iota_S16_d0_w32_scVector x)
      - (addi (broadcast S16 (BitVec.ofNat 32 (cnt fl (b + n) - cnt fl b))) (subi (scan .sum (andi (CHK fl (b + n)) (broadcast S16 1#32))) (andi (CHK fl (b + n)) (broadcast S16 1#32))) x))) = _
  rw [hc, hi, hq]
  unfold dest
  by_cases hb : bit fl (b + n + (x 0).val) = 1
  · rw [if_pos hb, if_pos hb, if_pos rfl, ← BitVec.ofNat_add]; congr 1; omega
  · rw [if_neg hb, if_neg hb, if_neg (by decide)]
    exact words _ _ _ _ _ _ (by omega) hl0 (by omega) (by omega)

end Cert.Proof.Route

end
-- ==== Proof.Route.lean ====
/-
  The routing kernel (the first SparseCore call): what a tile's run leaves in its part of the positions, and the first tile's
  in the number of blocks.
-/
module

public import proofs.«01_k».proof.Proof.Math

@[expose] public section

noncomputable section

namespace Cert.Proof.Route

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

namespace Ro

local notation "fV" => (Memref.whole Cert.KernelIdeal.main_arg1_scv : Memref Cert.KernelIdeal.sig Kind.scVector Space.hbm Cert.KernelIdeal.S8192 EltTy.i32)
local notation "pV" => (Memref.whole Cert.KernelIdeal.main_v8_0_scv : Memref Cert.KernelIdeal.sig Kind.scVector Space.hbm Cert.KernelIdeal.S512x16 EltTy.i32)
local notation "nV" => (Memref.whole Cert.KernelIdeal.main_v8_1_scv : Memref Cert.KernelIdeal.sig Kind.scVector Space.hbm Cert.KernelIdeal.S16 EltTy.i32)
local notation "iV" => (Memref.whole Cert.KernelIdeal.cc0_scratch0 : Memref Cert.KernelIdeal.sig Kind.scVector Space.vmem Cert.KernelIdeal.S8192 EltTy.i32)
local notation "aV" => (Memref.whole Cert.KernelIdeal.cc0_scratch1 : Memref Cert.KernelIdeal.sig Kind.scVector Space.vmem Cert.KernelIdeal.S16x16 EltTy.i32)
local notation "bV" => (Memref.whole Cert.KernelIdeal.cc0_scratch2 : Memref Cert.KernelIdeal.sig Kind.scVector Space.vmem Cert.KernelIdeal.S16 EltTy.i32)

variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

abbrev fLoc (d : Dev nD) : Loc nD τ sig := (SparseCore.T d).loc main_arg1
abbrev pLoc (d : Dev nD) : Loc nD τ sig := (SparseCore.T d).loc main_v8_0
abbrev nLoc (d : Dev nD) : Loc nD τ sig := (SparseCore.T d).loc main_v8_1

/-- Every token's row, sixteen to a line. -/
def POS (fl : S8192.Idx → BitVec 32) : S512x16.Idx → BitVec 32 := fun x => BitVec.ofNat 32 (dest fl (16 * (x 0).val + (x 1).val))

/-- The number of the flagged tokens' blocks, sixteen times. -/
def NBLK (fl : S8192.Idx → BitVec 32) : S16.Idx → BitVec 32 := fun _ => BitVec.ofNat 32 (nb fl)

/-- The first token of the tile. -/
def base (L : grid0.Coords) : ℕ := 512 * (L 1).val + 256 * (L 0).val

theorem base_le (L : grid0.Coords) : base L + 256 ≤ 8192 := by
  have h0 : (L 0).val < 2 := (L 0).isLt
  have h1 : (L 1).val < 16 := (L 1).isLt
  unfold base; omega

/-- The tile's sixteen lines of the positions. -/
abbrev pS (L : grid0.Coords) : Memref sig .scVector .hbm S16x16 .i32 := (pV).slice (Rect.unit (s := S512x16) (k0_off3 L) S16x16.size (k0_off3_inb L)) (fun _ => rfl)

/-- The elements of the tile's part of the positions. -/
abbrev part (L : grid0.Coords) : Finset S512x16.Idx := (pS L).view.set

/-- The tile's part of the positions, as its buffer holds them. -/
def TILE (fl : S8192.Idx → BitVec 32) (b : ℕ) : S16x16.Idx → BitVec 32 := fun x => BitVec.ofNat 32 (dest fl (b + 16 * (x 0).val + (x 1).val))

abbrev cellA : GSem nD τ sig := (thr d L, .dma cc0_scoped0.sem)
abbrev cellB : GSem nD τ sig := (thr d L, .dma cc0_scoped1.sem)
abbrev cellC : GSem nD τ sig := (thr d L, .dma cc0_scoped2.sem)

/-- The tile's semaphores: the three the kernel uses, and the rest. -/
theorem ownSems0_V :
    ∃ R : sProp 𝕄, (ownSems0 (thr d L) : sProp 𝕄)
      = iprop(semVal (cellA d L) 0 ∗ semVal (cellB d L) 0 ∗ semVal (cellC d L) 0 ∗ R) := by
  unfold SparseCore.Cfg.ownSems0
  apply Exists.intro
  have hA : cellA d L ∈ ownCells (thr d L) := mem_ownCells.mpr ⟨rfl, by show (SemLoc.dma cc0_scoped0.sem : SemLoc sig).isScoped .scVector = true; decide⟩
  have hB : cellB d L ∈ ownCells (thr d L) := mem_ownCells.mpr ⟨rfl, by show (SemLoc.dma cc0_scoped1.sem : SemLoc sig).isScoped .scVector = true; decide⟩
  have hC : cellC d L ∈ ownCells (thr d L) := mem_ownCells.mpr ⟨rfl, by show (SemLoc.dma cc0_scoped2.sem : SemLoc sig).isScoped .scVector = true; decide⟩
  have ne {a b : DmaSem sig} (h : a ≠ b) : ((thr d L, SemLoc.dma a) : GSem nD τ sig) ≠ (thr d L, SemLoc.dma b) := fun e => h (by injection e with _ e; injection e)
  rw [SparseCore.bigSep_erase' hA,
    SparseCore.bigSep_erase' (Finset.mem_erase.mpr ⟨ne (by decide), hB⟩),
    SparseCore.bigSep_erase' (Finset.mem_erase.mpr ⟨ne (by decide), Finset.mem_erase.mpr ⟨ne (by decide), hC⟩⟩)]

/-- The tile's buffers: the three the kernel uses, at some contents, and the rest. -/
theorem ownBufs_V :
    ∃ R : sProp 𝕄, (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ R) := by
  unfold SparseCore.Cfg.ownBufs
  apply Exists.intro
  have ne {a b : Ref sig .scVector} (h : a ≠ b) : (Proc.scVector (cV L) (jV L)).devRef a ≠ (Proc.scVector (cV L) (jV L)).devRef b := fun e => h (Proc.devRef_injective _ e)
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨ne (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩)]

/-- The counting loop's invariant: the flags in the tile's buffer, and the carried words the numbers of flagged tokens before
    the trip's first token, and of those before the tile's first. -/
def inv (fl : S8192.Idx → BitVec 32) (n : ℕ) (acc : BitVec 32 × BitVec 32) : sProp 𝕄 :=
  iprop(((iV).view.loc (thr d L) ↦{fullShare} fl)
    ∗ ⌜acc.1 = BitVec.ofNat 32 (cnt fl (16 * n)) ∧ acc.2 = BitVec.ofNat 32 (cnt fl (min (16 * n) (base L)))⌝)

/-- The flags a tile loads, from the token its chunk starts at. -/
theorem load_chk (fl : S8192.Idx → Elt F .i32) (off : Fin 1 → ℕ) (inb : ∀ a, off a + S16.size a ≤ S8192.size a) (a : ℕ) (h : off = ![a]) :
    View.readAt (Elt F) (iV).view (Rect.unit (s := S8192) off S16.size inb).toLoadRect fl = CHK fl a := by
  subst h
  funext x
  have hx : (x 0).val < 16 := (x 0).isLt
  have h8 : a + (x 0).val < 8192 := by have := inb 0; simp at this; omega
  unfold CHK
  rw [dif_pos h8]
  show fl ((Rect.unit (s := S8192) ![a] S16.size inb).emb x) = _
  congr 1
  funext k
  rw [Fin.eq_zero k]
  apply Fin.ext
  rw [Rect.emb_apply]
  show a + 1 * (x 0).val = a + (x 0).val
  omega

/-- The count carried into chunk `n`. -/
def CAR (c : Fin 16 → IVec S16 32) : ℕ → BitVec 32
  | 0 => 0#32
  | n + 1 => Scalar.addi (CAR c n) (extractAt ![15] (scan .sum (andi (c (Fin.ofNat 16 n)) (broadcast S16 1#32))) inpos_S16_p15)

/-- It is the number of flagged tokens of the tile before the chunk. -/
theorem CAR_eq {fl : S8192.Idx → BitVec 32} (h : Flags fl) (b : ℕ) (c : Fin 16 → IVec S16 32) (hc : ∀ j, c j = CHK fl (b + 16 * j.val)) (n : ℕ) (hn : n ≤ 16) :
    CAR c n = BitVec.ofNat 32 (cnt fl (b + 16 * n) - cnt fl b) := by
  induction n with
  | zero => rw [Nat.mul_zero, Nat.add_zero, Nat.sub_self]; rfl
  | succ n ih =>
    have e := CHK_scan h (b + 16 * n) (ix1 (15 : Fin 16))
    have hm := cnt_mono (fl := fl) (show b ≤ b + 16 * n by omega)
    rw [CAR, ih (by omega), hc, show (Fin.ofNat 16 n).val = n from Nat.mod_eq_of_lt (by omega), show b + 16 * (n + 1) = b + 16 * n + 16 by omega, cnt_add (b + 16 * n),
      show extractAt ![15] (scan .sum (andi (CHK fl (b + 16 * n)) (broadcast S16 1#32))) inpos_S16_p15 = _ from e]
    show BitVec.ofNat 32 _ + BitVec.ofNat 32 _ = _
    rw [← BitVec.ofNat_add]
    refine congrArg (BitVec.ofNat 32) ?_
    show _ + ∑ k ∈ Finset.range 16, _ = _
    omega

/-- What the run stores, line by line, the last first. -/
def LIST (c : Fin 16 → IVec S16 32) (pre v8 v9 : BitVec 32) : List (View.Piece (Elt F) S16x16 .i32) :=
  [⟨Rect.unit (s := S16x16) ![15, 0] S1x16.size inb_S16x16_S1x16_15_0, shapeCast S1x16 (LANE (c 15) pre (CAR c 15) v8 v9 240#32) shapeCasts_S16_S1x16⟩,
   ⟨Rect.unit (s := S16x16) ![14, 0] S1x16.size inb_S16x16_S1x16_14_0, shapeCast S1x16 (LANE (c 14) pre (CAR c 14) v8 v9 224#32) shapeCasts_S16_S1x16⟩,
   ⟨Rect.unit (s := S16x16) ![13, 0] S1x16.size inb_S16x16_S1x16_13_0, shapeCast S1x16 (LANE (c 13) pre (CAR c 13) v8 v9 208#32) shapeCasts_S16_S1x16⟩,
   ⟨Rect.unit (s := S16x16) ![12, 0] S1x16.size inb_S16x16_S1x16_12_0, shapeCast S1x16 (LANE (c 12) pre (CAR c 12) v8 v9 192#32) shapeCasts_S16_S1x16⟩,
   ⟨Rect.unit (s := S16x16) ![11, 0] S1x16.size inb_S16x16_S1x16_11_0, shapeCast S1x16 (LANE (c 11) pre (CAR c 11) v8 v9 176#32) shapeCasts_S16_S1x16⟩,
   ⟨Rect.unit (s := S16x16) ![10, 0] S1x16.size inb_S16x16_S1x16_10_0, shapeCast S1x16 (LANE (c 10) pre (CAR c 10) v8 v9 160#32) shapeCasts_S16_S1x16⟩,
   ⟨Rect.unit (s := S16x16) ![9, 0] S1x16.size inb_S16x16_S1x16_9_0, shapeCast S1x16 (LANE (c 9) pre (CAR c 9) v8 v9 144#32) shapeCasts_S16_S1x16⟩,
   ⟨Rect.unit (s := S16x16) ![8, 0] S1x16.size inb_S16x16_S1x16_8_0, shapeCast S1x16 (LANE (c 8) pre (CAR c 8) v8 v9 128#32) shapeCasts_S16_S1x16⟩,
   ⟨Rect.unit (s := S16x16) ![7, 0] S1x16.size inb_S16x16_S1x16_7_0, shapeCast S1x16 (LANE (c 7) pre (CAR c 7) v8 v9 112#32) shapeCasts_S16_S1x16⟩,
   ⟨Rect.unit (s := S16x16) ![6, 0] S1x16.size inb_S16x16_S1x16_6_0, shapeCast S1x16 (LANE (c 6) pre (CAR c 6) v8 v9 96#32) shapeCasts_S16_S1x16⟩,
   ⟨Rect.unit (s := S16x16) ![5, 0] S1x16.size inb_S16x16_S1x16_5_0, shapeCast S1x16 (LANE (c 5) pre (CAR c 5) v8 v9 80#32) shapeCasts_S16_S1x16⟩,
   ⟨Rect.unit (s := S16x16) ![4, 0] S1x16.size inb_S16x16_S1x16_4_0, shapeCast S1x16 (LANE (c 4) pre (CAR c 4) v8 v9 64#32) shapeCasts_S16_S1x16⟩,
   ⟨Rect.unit (s := S16x16) ![3, 0] S1x16.size inb_S16x16_S1x16_3_0, shapeCast S1x16 (LANE (c 3) pre (CAR c 3) v8 v9 48#32) shapeCasts_S16_S1x16⟩,
   ⟨Rect.unit (s := S16x16) ![2, 0] S1x16.size inb_S16x16_S1x16_2_0, shapeCast S1x16 (LANE (c 2) pre (CAR c 2) v8 v9 32#32) shapeCasts_S16_S1x16⟩,
   ⟨Rect.unit (s := S16x16) ![1, 0] S1x16.size inb_S16x16_S1x16_1_0, shapeCast S1x16 (LANE (c 1) pre (CAR c 1) v8 v9 16#32) shapeCasts_S16_S1x16⟩,
   ⟨Rect.unit (s := S16x16) ![0, 0] S1x16.size inb_S16x16_S1x16_0_0, shapeCast S1x16 (LANE (c 0) pre (CAR c 0) v8 v9 0#32) shapeCasts_S16_S1x16⟩]

theorem piece_ok {fl : S8192.Idx → BitVec 32} (h : Flags fl) (b : ℕ) (hb : b + 256 ≤ 8192) (c : Fin 16 → IVec S16 32) (hc : ∀ j, c j = CHK fl (b + 16 * j.val)) (j : Fin 16)
    (off : Fin 2 → ℕ) (inb : ∀ a, off a + S1x16.size a ≤ S16x16.size a) (hoff : off = ![j.val, 0]) (pre v8 v9 w : BitVec 32)
    (hpre : pre = BitVec.ofNat 32 (cnt fl b)) (h8 : v8 = BitVec.ofNat 32 (256 * nb fl)) (h9 : v9 = Scalar.subi (BitVec.ofNat 32 b) (BitVec.ofNat 32 (cnt fl b)))
    (hw : w = BitVec.ofNat 32 (16 * j.val)) (x : S1x16.Idx) :
    shapeCast S1x16 (LANE (c j) pre (CAR c j.val) v8 v9 w) shapeCasts_S16_S1x16 x = TILE fl b ((Rect.unit (s := S16x16) off S1x16.size inb).emb x) := by
  subst hoff hpre h8 h9 hw
  have hj := j.isLt
  have hx0 : (x 0).val = 0 := by have : (x 0).val < 1 := (x 0).isLt; omega
  have hx1 : (x 1).val < 16 := (x 1).isLt
  have e : shapeCast S1x16 (LANE (c j) (BitVec.ofNat 32 (cnt fl b)) (CAR c j.val) (BitVec.ofNat 32 (256 * nb fl)) (Scalar.subi (BitVec.ofNat 32 b) (BitVec.ofNat 32 (cnt fl b))) (BitVec.ofNat 32 (16 * j.val))) shapeCasts_S16_S1x16 x
      = LANE (c j) (BitVec.ofNat 32 (cnt fl b)) (CAR c j.val) (BitVec.ofNat 32 (256 * nb fl)) (Scalar.subi (BitVec.ofNat 32 b) (BitVec.ofNat 32 (cnt fl b))) (BitVec.ofNat 32 (16 * j.val)) (ix1 (⟨(x 1).val, hx1⟩ : Fin 16)) := by
    unfold shapeCast
    congr 1
    apply Shape.reshapeEquiv_eq_of_rowMajor
    rw [Shape.rowMajor_val_one, Shape.rowMajor_val_two]
    show (x 1).val = (x 0).val * 16 + (x 1).val
    omega
  rw [e, hc, CAR_eq h b c hc j.val (by omega), LANE_eq h b (16 * j.val) (by omega)]
  unfold TILE
  have e0 : ((Rect.unit (s := S16x16) ![j.val, 0] S1x16.size inb).emb x 0).val = j.val := by
    rw [Rect.emb_apply]; show j.val + 1 * (x 0).val = _; omega
  have e1 : ((Rect.unit (s := S16x16) ![j.val, 0] S1x16.size inb).emb x 1).val = (x 1).val := by
    rw [Rect.emb_apply]; show 0 + 1 * (x 1).val = _; omega
  rw [e0, e1]

theorem LIST_read {fl : S8192.Idx → BitVec 32} (h : Flags fl) (b : ℕ) (hb : b + 256 ≤ 8192) (c : Fin 16 → IVec S16 32) (hc : ∀ j, c j = CHK fl (b + 16 * j.val))
    (pre v8 v9 : BitVec 32)
    (hpre : pre = BitVec.ofNat 32 (cnt fl b)) (h8 : v8 = BitVec.ofNat 32 (256 * nb fl)) (h9 : v9 = Scalar.subi (BitVec.ofNat 32 b) (BitVec.ofNat 32 (cnt fl b)))
    (fa : S16x16.Idx → Elt F .i32) :
    (aV).view.read (Elt F) ((aV).view.writes (Elt F) fa (LIST (F := F) c pre v8 v9)) = TILE fl b := by
  funext y
  refine View.read_writes_apply_of_pieces (v := (aV).view) (f := fa) (TILE fl b) (LIST (F := F) c pre v8 v9) ?_ y ?_
  · unfold LIST
    simp only [List.forall_mem_cons, List.not_mem_nil, false_implies, implies_true, and_true]
    exact ⟨piece_ok h b hb c hc 15 _ _ rfl _ _ _ _ hpre h8 h9 rfl, piece_ok h b hb c hc 14 _ _ rfl _ _ _ _ hpre h8 h9 rfl, piece_ok h b hb c hc 13 _ _ rfl _ _ _ _ hpre h8 h9 rfl, piece_ok h b hb c hc 12 _ _ rfl _ _ _ _ hpre h8 h9 rfl, piece_ok h b hb c hc 11 _ _ rfl _ _ _ _ hpre h8 h9 rfl, piece_ok h b hb c hc 10 _ _ rfl _ _ _ _ hpre h8 h9 rfl, piece_ok h b hb c hc 9 _ _ rfl _ _ _ _ hpre h8 h9 rfl, piece_ok h b hb c hc 8 _ _ rfl _ _ _ _ hpre h8 h9 rfl, piece_ok h b hb c hc 7 _ _ rfl _ _ _ _ hpre h8 h9 rfl, piece_ok h b hb c hc 6 _ _ rfl _ _ _ _ hpre h8 h9 rfl, piece_ok h b hb c hc 5 _ _ rfl _ _ _ _ hpre h8 h9 rfl, piece_ok h b hb c hc 4 _ _ rfl _ _ _ _ hpre h8 h9 rfl, piece_ok h b hb c hc 3 _ _ rfl _ _ _ _ hpre h8 h9 rfl, piece_ok h b hb c hc 2 _ _ rfl _ _ _ _ hpre h8 h9 rfl, piece_ok h b hb c hc 1 _ _ rfl _ _ _ _ hpre h8 h9 rfl, piece_ok h b hb c hc 0 _ _ rfl _ _ _ _ hpre h8 h9 rfl⟩
  · exact View.cover_of_tiled (LIST (F := F) c pre v8 v9) ![1, 16] rfl y

theorem pS_emb (L : grid0.Coords) (x : S16x16.Idx) (a : Fin 2) : ((pS L).view.emb x a).val = ![32 * (L 1).val + 16 * (L 0).val, 0] a + (x a).val := by
  rw [show (pS L).view.emb x a = (Rect.unit (s := S512x16) (k0_off3 L) S16x16.size (k0_off3_inb L)).emb x a from rfl]
  rw [Rect.emb_apply]
  show k0_off3 L a + 1 * (x a).val = _
  rw [k0_off3_eq, one_mul]

theorem pos_emb (fl : S8192.Idx → BitVec 32) (L : grid0.Coords) (x : S16x16.Idx) : POS fl ((pS L).view.emb x) = TILE fl (base L) x := by
  have e0 := pS_emb L x 0
  have e1 := pS_emb L x 1
  change _ = 32 * (L 1).val + 16 * (L 0).val + (x 0).val at e0
  change _ = 0 + (x 1).val at e1
  unfold POS TILE base
  rw [e0, e1]
  congr 2; omega

/-- The tile's part of the positions, written with what its buffer held. -/
theorem out_done (fl : S8192.Idx → BitVec 32) (f0 : Buf (Elt F) (pLoc d)) (pay : S16x16.Idx → Elt F .i32) (hpay : pay = TILE fl (base L)) :
    ((pS L).view.loc (thr d L) ↦[(pS L).view.set]{fullShare} (pS L).view.writes (Elt F) f0 [⟨Rect.whole S16x16, pay⟩] : sProp 𝕄)
      = pLoc d ↦[part L]{fullShare} POS fl := by
  subst hpay
  rw [← View.write_univ_eq_writes_whole, View.writes_nil]
  refine pointsTo_congr fun i hi => ?_
  obtain ⟨x, -, rfl⟩ := Finset.mem_map.mp hi
  rw [View.write_emb_of_mem _ _ (Finset.mem_univ x)]
  exact (pos_emb fl L x).symm

theorem shr8 (n : ℕ) (hn : n < 2 ^ 31) : Scalar.shrsi (BitVec.ofNat 32 n) 8#32 = BitVec.ofNat 32 (n / 256) := by
  show BitVec.sshiftRight (BitVec.ofNat 32 n) 8 = _
  rw [BitVec.sshiftRight_eq_of_msb_false (by rw [BitVec.msb_eq_false_iff_two_mul_lt, BitVec.toNat_ofNat]; omega)]
  apply BitVec.eq_of_toNat_eq
  rw [BitVec.toNat_ushiftRight, Nat.shiftRight_eq_div_pow]
  simp only [BitVec.toNat_ofNat]; omega

/-- The blocks' number, from the count of all the flags. -/
theorem round_up {fl : S8192.Idx → BitVec 32} (h : Flags fl) :
    Scalar.shli (Scalar.shrsi (Scalar.subi (Scalar.addi (BitVec.ofNat 32 (cnt fl 8192)) 256#32) 1#32) 8#32) 8#32 = BitVec.ofNat 32 (256 * nb fl)
      ∧ Scalar.shrsi (BitVec.ofNat 32 (256 * nb fl)) 8#32 = BitVec.ofNat 32 (nb fl) := by
  have key : ∀ n : ℕ, n ≤ 8192 → Scalar.shli (Scalar.shrsi (Scalar.subi (Scalar.addi (BitVec.ofNat 32 n) 256#32) 1#32) 8#32) 8#32 = BitVec.ofNat 32 (256 * ((n + 255) / 256)) := by
    intro n hn
    have e : Scalar.subi (Scalar.addi (BitVec.ofNat 32 n) 256#32) 1#32 = BitVec.ofNat 32 (n + 255) := by
      show BitVec.ofNat 32 n + 256#32 - 1#32 = _
      apply BitVec.eq_of_toNat_eq; simp only [BitVec.toNat_add, BitVec.toNat_sub, BitVec.toNat_ofNat]; omega
    have e2 := shr8 (n + 255) (by omega)
    rw [e, e2]
    show (BitVec.ofNat 32 ((n + 255) / 256)) <<< 8 = _
    apply BitVec.eq_of_toNat_eq
    rw [BitVec.toNat_shiftLeft, Nat.shiftLeft_eq]; simp only [BitVec.toNat_ofNat]; omega
  have hn := nb_le h
  refine ⟨key _ (cnt_le h _), ?_⟩
  rw [shr8 _ (by omega)]; congr 1; omega

/-- The tile's number in words. -/
theorem wid_eq (L : grid0.Coords) : Scalar.addi (Scalar.muli (BitVec.ofNat 32 (L 1).val) 2#32) (BitVec.ofNat 32 (L 0).val) = BitVec.ofNat 32 (2 * (L 1).val + (L 0).val) := by
  show BitVec.ofNat 32 (L 1).val * BitVec.ofNat 32 2 + BitVec.ofNat 32 (L 0).val = _
  rw [← BitVec.ofNat_mul, ← BitVec.ofNat_add]; congr 1; omega

theorem base_eq (L : grid0.Coords) : Scalar.muli (BitVec.ofNat 32 (2 * (L 1).val + (L 0).val)) 256#32 = BitVec.ofNat 32 (base L) := by
  show BitVec.ofNat 32 _ * BitVec.ofNat 32 256 = _
  rw [← BitVec.ofNat_mul]; congr 1; unfold base; omega

theorem first_iff (L : grid0.Coords) : (Scalar.cmpi CmpIPredicate.ne (Scalar.extui (Scalar.cmpi CmpIPredicate.eq
    (Scalar.addi (Scalar.muli (BitVec.ofNat 32 (L 1).val) 2#32) (BitVec.ofNat 32 (L 0).val)) 0#32)) 0#32 = 1#1) ↔ base L = 0 := by
  have h0 : (L 0).val < 2 := (L 0).isLt
  have h1 : (L 1).val < 16 := (L 1).isLt
  rw [wid_eq]
  unfold base
  generalize (L 0).val = a at *
  generalize (L 1).val = b at *
  have key : ∀ a : Fin 2, ∀ b : Fin 16, (Scalar.cmpi CmpIPredicate.ne (Scalar.extui (Scalar.cmpi CmpIPredicate.eq (BitVec.ofNat 32 (2 * b.val + a.val)) 0#32)) 0#32 = 1#1)
    ↔ 512 * b.val + 256 * a.val = 0 := by decide
  exact key ⟨a, h0⟩ ⟨b, h1⟩

theorem iv_word (k : ℕ) : Scf.iv 0#32 1#32 k = BitVec.ofNat 32 k := by
  show 0#32 + BitVec.ofNat 32 k * 1#32 = _
  rw [BitVec.zero_add, BitVec.mul_one]

/-- One trip of the counting loop. -/
theorem trip_ok {fl : S8192.Idx → BitVec 32} (h : Flags fl) (L : grid0.Coords) (k : ℕ) (hk : k < 512) (a9 a10 : BitVec 32) (v : IVec S16 32) (hv : v = CHK fl (16 * k))
    (h9 : a9 = BitVec.ofNat 32 (cnt fl (16 * k))) (h10 : a10 = BitVec.ofNat 32 (cnt fl (min (16 * k) (base L)))) (iv : BitVec 32) (hiv : iv = BitVec.ofNat 32 k) :
    Scalar.addi a9 (extractAt ![15] (scan .sum (andi v (broadcast S16 1#32))) inpos_S16_p15) = BitVec.ofNat 32 (cnt fl (16 * (k + 1)))
      ∧ Scalar.addi a10 (Scalar.select (Scalar.cmpi .slt iv (Scalar.muli (Scalar.addi (Scalar.muli (BitVec.ofNat 32 (L 1).val) 2#32) (BitVec.ofNat 32 (L 0).val)) 16#32))
          (extractAt ![15] (scan .sum (andi v (broadcast S16 1#32))) inpos_S16_p15) 0#32) = BitVec.ofNat 32 (cnt fl (min (16 * (k + 1)) (base L))) := by
  subst hv h9 h10 hiv
  have h0 : (L 0).val < 2 := (L 0).isLt
  have h1 : (L 1).val < 16 := (L 1).isLt
  have hs := carry_step h (16 * k) (16 * (k + 1)) _ (by omega) rfl
  generalize extractAt ![15] (scan .sum (andi (CHK fl (16 * k)) (broadcast S16 1#32))) inpos_S16_p15 = E at *
  refine ⟨hs, ?_⟩
  have e : Scalar.muli (Scalar.addi (Scalar.muli (BitVec.ofNat 32 (L 1).val) 2#32) (BitVec.ofNat 32 (L 0).val)) 16#32 = BitVec.ofNat 32 (16 * (2 * (L 1).val + (L 0).val)) := by
    rw [wid_eq]; show BitVec.ofNat 32 _ * BitVec.ofNat 32 16 = _; rw [← BitVec.ofNat_mul]; congr 1; omega
  rw [e]
  have hc : Scalar.cmpi .slt (BitVec.ofNat 32 k) (BitVec.ofNat 32 (16 * (2 * (L 1).val + (L 0).val))) = BitVec.ofBool (decide (k < 16 * (2 * (L 1).val + (L 0).val))) := by
    show BitVec.ofBool (BitVec.slt _ _) = _
    congr 1
    rw [BitVec.slt_eq_decide, BitVec.toInt_eq_toNat_of_lt (by rw [BitVec.toNat_ofNat]; omega), BitVec.toInt_eq_toNat_of_lt (by rw [BitVec.toNat_ofNat]; omega)]
    simp only [BitVec.toNat_ofNat]
    rw [decide_eq_decide]; omega
  rw [hc]
  by_cases hlt : k < 16 * (2 * (L 1).val + (L 0).val)
  · rw [decide_eq_true hlt]
    have e1 : min (16 * k) (base L) = 16 * k := by unfold base; omega
    have e2 : min (16 * (k + 1)) (base L) = 16 * (k + 1) := by unfold base; omega
    rw [e1, e2]
    exact hs
  · rw [decide_eq_false hlt]
    have e1 : min (16 * k) (base L) = base L := by unfold base; omega
    have e2 : min (16 * (k + 1)) (base L) = base L := by unfold base; omega
    rw [e1, e2]
    exact BitVec.add_zero _

set_option maxHeartbeats 8000000 in
set_option maxRecDepth 16384 in
/-- A tile's run of the routing kernel, from its share of the flags, leaves its tokens' rows in its part of the positions; the first tile
    also leaves the number of blocks. -/
theorem tile_body (hF : (K (F := F)).Facts) (fl : Buf (Elt F) (fLoc d)) (hfl : Flags fl) (f0 : Buf (Elt F) (pLoc d)) (g0 : Buf (Elt F) (nLoc d))
    (q : PosShare TreeShare) (O : CellTallies nD τ sig (HIx 3)) (W : Waits sig (HIx 3)) (hO : ∀ g, O g none = 0) :
    iprop(levAts (K (F := F)).L (K (F := F)).lev ∗ emp
        ∗ ((fLoc d ↦{q} fl) ∗ (pLoc d ↦[part L]{fullShare} f0) ∗ if base L = 0 then (nLoc d ↦{fullShare} g0 : sProp 𝕄) else emp)
        ∗ scopedBufs (thr d L) ∗ scopedSems0 (thr d L) ∗ owes (thr d L) O W)
      ⊢ wp frame (wpE (defs₀ (F := F)) 𝒱₀ (thr d L) none) Set.univ
          (cc0__route L fV (Memref.isWhole_whole _) pV (Memref.isWhole_whole _) nV (Memref.isWhole_whole _)
            iV (Memref.isWhole_whole _) aV (Memref.isWhole_whole _) bV (Memref.isWhole_whole _) cc0_scoped0 cc0_scoped1 cc0_scoped2)
          fun _ => iprop(((pLoc d ↦[part L]{fullShare} POS fl) ∗ if base L = 0 then (nLoc d ↦{fullShare} NBLK fl : sProp 𝕄) else emp)
            ∗ scopedBufs (thr d L) ∗ scopedSems0 (thr d L)
            ∗ ∃ W', ⌜∀ p ∈ W', p ∈ W ∨ p.2 = none⌝ ∗ owes (thr d L) O W') := by
  obtain ⟨RS, hRS⟩ := ownSems0_V (F := F) d L
  obtain ⟨RB, hRB⟩ := ownBufs_V (F := F) d L
  simp only [cc0__route_eq_skeleton]
  unfold cc0__route_skel
  simp only [k0_part11_eq_skeleton]; unfold k0_part11_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [bind_assoc, pure_bind]
  rw [(K (F := F)).scopedBufs_V hF d (cV L) (jV L), SparseCore.Cfg.scopedSems0_V (Val := Elt F) d (cV L) (jV L), hRS, hRB]
  iintro ⟨#Hlv, -, ⟨Hf, Hp, Hn⟩, ⟨⟨%fi, Hi⟩, ⟨%fa, Ha⟩, ⟨%fb, Hb⟩, Hbufs⟩, ⟨HA, HB, HC, Hsems⟩, HO⟩
  ihave Hmw := (show (levAts (K (F := F)).L (K (F := F)).lev : sProp 𝕄) ⊢ Transfers.MayWaits (thr d L) (default : HIx 3) O from
    (K (F := F)).mayWaits_none (thr := thr d L) hO) $$ Hlv
  ihave Hf := (show (fLoc d ↦{q} fl : sProp 𝕄) ⊢ (fV).view.loc (thr d L) ↦{q} fl from Entails.of_eq rfl) $$ Hf
  ihave Hp := (show (pLoc d ↦[part L]{fullShare} f0 : sProp 𝕄) ⊢ (pS L).view.loc (thr d L) ↦[(pS L).view.set]{fullShare} f0 from Entails.of_eq rfl) $$ Hp
  ihave Hi := (show ((thr d L).loc cc0_scratch0 ↦{fullShare} fi : sProp 𝕄) ⊢ (iV).view.loc (thr d L) ↦{fullShare} fi from Entails.of_eq rfl) $$ Hi
  ihave Ha := (show ((thr d L).loc cc0_scratch1 ↦{fullShare} fa : sProp 𝕄) ⊢ (aV).view.loc (thr d L) ↦{fullShare} fa from Entails.of_eq rfl) $$ Ha
  ihave Hb := (show ((thr d L).loc cc0_scratch2 ↦{fullShare} fb : sProp 𝕄) ⊢ (bV).view.loc (thr d L) ↦{fullShare} fb from Entails.of_eq rfl) $$ Hb
  sl_exec
  ihave Hi := (show ((iV).view.loc (thr d L) ↦{fullShare} View.write (Elt F) (iV).view fi (tile_body.sl.dma0 d fl) Finset.univ : sProp 𝕄) ⊢ (iV).view.loc (thr d L) ↦{fullShare} fl
    from Entails.of_eq (by rw [View.write_whole_univ]; rfl)) $$ Hi
  sl_for (inv d L fl) $$ [Hi]
  case region =>
    intro k acc
    obtain ⟨a9, a10⟩ := acc
    unfold inv
    iintro ⟨Hi, %hacc⟩
    obtain ⟨h9, h10⟩ := hacc
    sl_exec

    sl_step
    isplitl [Hi]; · iexact Hi
    ipureintro
    exact trip_ok hfl L k.val k.isLt a9 a10 _ (load_chk fl (k0_off1 k) (k0_off1_inb k) (16 * k.val) (k0_off1_eq k)) h9 h10 _ (iv_word k)
  · unfold inv
    isplitl [Hi]; · iexact Hi
    ipureintro
    constructor
    · rw [Nat.mul_zero, cnt_zero]
    · rw [Nat.mul_zero, Nat.zero_min, cnt_zero]
  iintro %acc HI
  obtain ⟨a9, a10⟩ := acc
  unfold inv
  icases HI with ⟨Hi, %hacc⟩
  obtain ⟨h9, h10⟩ := hacc
  sl_exec
  have htr : Scf.trips k0_t1_loop.lb k0_t1_loop.ub k0_t1_loop.st = 512 := by decide
  rw [htr] at h9 h10
  have hbase := base_le L
  rw [show min (16 * 512) (base L) = base L by omega] at h10
  change a9 = BitVec.ofNat 32 (cnt fl 8192) at h9
  change a10 = BitVec.ofNat 32 (cnt fl (base L)) at h10
  let c : Fin 16 → IVec S16 32 := fun j => View.readAt (Elt F) (iV).view (Rect.unit (s := S8192) (k0_off2 L (BitVec.ofNat 32 (16 * j.val))) S16.size (k0_off2_inb L j)).toLoadRect fl
  have hc : ∀ j, c j = CHK fl (base L + 16 * j.val) := fun j => load_chk fl _ _ _ (by rw [k0_off2_eq]; rfl)
  have hlist : tile_body.sl.Ha_16 d L fl a9 a10
      = LIST (F := F) c a10 (Scalar.shli (Scalar.shrsi (Scalar.subi (Scalar.addi a9 256#32) 1#32) 8#32) 8#32)
        (Scalar.subi (Scalar.muli (Scalar.addi (Scalar.muli (BitVec.ofNat 32 (L 1).val) 2#32) (BitVec.ofNat 32 (L 0).val)) 256#32) a10) := by
    unfold tile_body.sl.Ha_16 LIST
    rfl
  have hpay : tile_body.sl.dma48 d L fl fa a9 a10 = TILE fl (base L) := by
    unfold tile_body.sl.dma48
    rw [hlist]
    exact LIST_read hfl (base L) hbase c hc _ _ _ h10 (by rw [h9]; exact (round_up hfl).1) (by rw [h10, wid_eq, base_eq]) fa
  ihave Hp := (Entails.of_eq (out_done d L fl f0 _ hpay)) $$ Hp
  by_cases hb : base L = 0
  · have k0_h1 := (first_iff L).mpr hb
    ihave Hn := (show (if base L = 0 then (nLoc d ↦{fullShare} g0 : sProp 𝕄) else emp) ⊢ (nV).view.loc (thr d L) ↦{fullShare} g0 from Entails.of_eq (if_pos hb)) $$ Hn
    sl_exec
    have hnb : tile_body.sl.dma2 d L fb a9 a10 = NBLK fl := by
      unfold tile_body.sl.dma2
      refine funext fun y => ?_
      refine View.read_writes_apply_of_pieces (v := (bV).view) (f := fb) (NBLK fl) _ ?_ y ⟨_, List.mem_cons_self, ?_⟩
      · unfold tile_body.sl.Hb_1
        intro p hp x
        rw [List.mem_singleton] at hp
        subst hp
        show Scalar.shrsi (Scalar.shli (Scalar.shrsi (Scalar.subi (Scalar.addi a9 256#32) 1#32) 8#32) 8#32) 8#32 = BitVec.ofNat 32 (nb fl)
        rw [h9, (round_up hfl).1, (round_up hfl).2]
      · refine (Rect.unit (s := S16) ![0] S16.size inb_S16_S16_0).mem_set.mpr fun a => ⟨(y a).val, (y a).isLt, ?_⟩
        rw [Fin.eq_zero a]
        show (y 0).val = 0 + 1 * (y 0).val
        omega
    sl_step
    isplitl [Hp Hn]
    · isplitl [Hp]; · iexact Hp
      ihave Hn := (show ((nV).view.loc (thr d L) ↦{fullShare} View.write (Elt F) (nV).view g0 (tile_body.sl.dma2 d L fb a9 a10) Finset.univ : sProp 𝕄)
          ⊢ (if base L = 0 then (nLoc d ↦{fullShare} NBLK fl : sProp 𝕄) else emp)
        from Entails.of_eq (by rw [if_pos hb, View.write_whole_univ, hnb])) $$ Hn
      iexact Hn
    isplitl [Hi Ha Hb Hbufs]
    · isplitl [Hi]; · iexists _; iexact Hi
      isplitl [Ha]; · iexists _; iexact Ha
      isplitl [Hb]; · iexists _; iexact Hb
      iexact Hbufs
    isplitl [HA HB HC Hsems]
    · isplitl [HA]; · iexact HA
      isplitl [HB]; · iexact HB
      isplitl [HC]; · iexact HC
      iexact Hsems
    iexists _; isplitr
    swap; · iexact HO
    ipureintro; intro p hp
    repeat' rcases Finset.mem_insert.mp hp with hp | hp
    all_goals first | exact .inl hp | exact .inr (hp ▸ rfl)
  · have k0_h1 := mt (first_iff L).mp hb
    sl_exec
    sl_step
    isplitl [Hp Hn]
    · isplitl [Hp]; · iexact Hp
      ihave Hn := (show (if base L = 0 then (nLoc d ↦{fullShare} g0 : sProp 𝕄) else emp) ⊢ (if base L = 0 then (nLoc d ↦{fullShare} NBLK fl : sProp 𝕄) else emp)
        from Entails.of_eq ((if_neg hb).trans (if_neg hb).symm)) $$ Hn
      iexact Hn
    isplitl [Hi Ha Hb Hbufs]
    · isplitl [Hi]; · iexists _; iexact Hi
      isplitl [Ha]; · iexists _; iexact Ha
      isplitl [Hb]; · iexists _; iexact Hb
      iexact Hbufs
    isplitl [HA HB HC Hsems]
    · isplitl [HA]; · iexact HA
      isplitl [HB]; · iexact HB
      isplitl [HC]; · iexact HC
      iexact Hsems
    iexists _; isplitr
    swap; · iexact HO
    ipureintro; intro p hp
    repeat' rcases Finset.mem_insert.mp hp with hp | hp
    all_goals first | exact .inl hp | exact .inr (hp ▸ rfl)

end Ro

end Cert.Proof.Route

end
-- ==== Proof.Scatter.lean ====
/-
  The scatter kernel (the second SparseCore call): what a tile's run leaves at the sub-rows its part of the list names.
-/
module

public import proofs.«01_k».proof.Proof.Lists

@[expose] public section

noncomputable section

namespace Cert.Proof.Route

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

namespace Sc

local notation "xV" => (Memref.whole Cert.KernelIdeal.main_v18_scv : Memref Cert.KernelIdeal.sig Kind.scVector Space.hbm Cert.KernelIdeal.S65536x2x128 EltTy.f32)
local notation "pV" => (Memref.whole Cert.KernelIdeal.main_v17_scv : Memref Cert.KernelIdeal.sig Kind.scVector Space.hbm Cert.KernelIdeal.S512x128 EltTy.i32)
local notation "dV" => (Memref.whole Cert.KernelIdeal.main_v19_scv : Memref Cert.KernelIdeal.sig Kind.scVector Space.hbm Cert.KernelIdeal.S67584x2x128 EltTy.f32)
local notation "iV" => (Memref.whole Cert.KernelIdeal.cc1_scratch0 : Memref Cert.KernelIdeal.sig Kind.scVector Space.vmem Cert.KernelIdeal.S16x128 EltTy.i32)
local notation "aV" => (Memref.whole Cert.KernelIdeal.cc1_scratch1 : Memref Cert.KernelIdeal.sig Kind.scVector Space.vmem Cert.KernelIdeal.S128x2x128 EltTy.f32)
local notation "bV" => (Memref.whole Cert.KernelIdeal.cc1_scratch2 : Memref Cert.KernelIdeal.sig Kind.scVector Space.vmem Cert.KernelIdeal.S128x2x128 EltTy.f32)

variable (d : Dev nD) (L : grid1.Coords)

abbrev cV (L : grid1.Coords) : Fin τ.nSC := (L 0).castLE hcore1
abbrev jV (L : grid1.Coords) : Fin τ.nSub := (L 1).castLE hsub1
abbrev thr : Thread nD τ := V d (cV L) (jV L)

/-- The sub-row of the token array that entry `(r, l)` of the list moves. -/
def tokRow (r : Fin 512) (l : Fin 128) : Fin 65536 := ⟨128 * r.val + l.val, by omega⟩

open scoped Classical in
/-- The elements of the sub-rows that row `r` of the list names. -/
def rowsAt (ps : S512x128.Idx → Elt F .i32) (r : Fin 512) : Finset S67584x2x128.Idx :=
  Finset.univ.filter fun i => ∃ l : Fin 128, i 0 = padRow (ps (ix2 r l))

open scoped Classical in
/-- The elements of the sub-rows that row `j` of a tile's list names. -/
def rowsOf (fi : S16x128.Idx → Elt F .i32) (j : Fin 16) : Finset S67584x2x128.Idx :=
  Finset.univ.filter fun i => ∃ l : Fin 128, i 0 = padRow (fi (ix2 j l))

open scoped Classical in
/-- The array `f0` with the sub-rows of `xs` scattered to the row numbers `ps` holds. -/
def SCAT (xs : S65536x2x128.Idx → Elt F .f32) (ps : S512x128.Idx → Elt F .i32) (f0 : S67584x2x128.Idx → Elt F .f32) : S67584x2x128.Idx → Elt F .f32 := fun i =>
  if h : ∃ p : Fin 512 × Fin 128, i 0 = padRow (ps (ix2 p.1 p.2)) then xs (ix3 (tokRow h.choose.1 h.choose.2) (i 1) (i 2)) else f0 i

theorem SCAT_at (xs : S65536x2x128.Idx → Elt F .f32) (ps : S512x128.Idx → Elt F .i32) (hps : ∀ r : S512x128.Idx, (ps r : BitVec 32).toNat < 67584)
    (hinj : Function.Injective fun r : S512x128.Idx => (ps r : BitVec 32).toNat) (f0 : S67584x2x128.Idx → Elt F .f32) (r : Fin 512) (l : Fin 128) (y : Fin 2) (z : Fin 128) :
    SCAT xs ps f0 (ix3 (padRow (ps (ix2 r l))) y z) = xs (ix3 (tokRow r l) y z) := by
  have h : ∃ p : Fin 512 × Fin 128, (ix3 (padRow (ps (ix2 r l))) y z : S67584x2x128.Idx) 0 = padRow (ps (ix2 p.1 p.2)) := ⟨(r, l), rfl⟩
  unfold SCAT
  rw [dif_pos h]
  have hs := h.choose_spec
  have e : (ix2 r l : S512x128.Idx) = ix2 h.choose.1 h.choose.2 := by
    apply hinj
    have := congrArg Fin.val hs
    change (padRow (ps (ix2 r l))).val = _ at this
    rw [padRow_val (hps _), padRow_val (hps _)] at this
    exact this
  have e1 : h.choose.1 = r := (congrFun e 0).symm
  have e2 : h.choose.2 = l := (congrFun e 1).symm
  rw [e1, e2]

/-- A scatter's named rows are the sub-rows the list's row names. -/
theorem named_eq (fi : S16x128.Idx → Elt F .i32) (j : Fin 16)
    (rr : Fin (S128x2x128.size gathers_S67584x2x128_S128x2x128.axis') → Fin (S67584x2x128.size gathers_S67584x2x128_S128x2x128.axis))
    (hr : ∀ l : Fin 128, rr l = padRow (fi (ix2 j l))) :
    SparseCore.namedRows (thr d L) (padAll (dV)).view gathers_S67584x2x128_S128x2x128.axis rr = rowsOf fi j := by
  classical
  ext i
  rw [SparseCore.namedRows_eq, Finset.mem_biUnion]
  unfold rowsOf
  rw [Finset.mem_filter]
  constructor
  · rintro ⟨l, -, hl⟩
    refine ⟨Finset.mem_univ _, l, ?_⟩
    obtain ⟨x, -, hx⟩ := Finset.mem_map.mp hl
    subst hx
    refine Eq.trans ?_ (hr l)
    rw [View.emb_slice]
    change (padAll (dV)).view.emb _ 0 = _
    rw [padAll_emb]
    exact Shape.rowRect_emb_axis gathers_S67584x2x128_S128x2x128.axis _ x
  · rintro ⟨-, l, hl⟩
    refine ⟨l, Finset.mem_univ _, ?_⟩
    have e : i = (padAll (dV)).view.emb ((S67584x2x128.rowRect gathers_S67584x2x128_S128x2x128.axis (i 0)).emb (S67584x2x128.rowProj gathers_S67584x2x128_S128x2x128.axis i)) := by
      rw [padAll_emb]
      exact (Shape.rowRect_emb_rowProj (s := S67584x2x128) gathers_S67584x2x128_S128x2x128.axis i).symm
    have hl' : rr l = i 0 := (hr l).trans hl.symm
    rw [hl']
    exact Finset.mem_map.mpr ⟨_, Finset.mem_univ _, e.symm⟩

/-- On the rows named, the scattered contents are any contents holding the source's rows there. -/
theorem scat_buf (B : Memref sig .scVector .vmem S128x2x128 .f32) (w : S128x2x128.Idx → Elt F .f32)
    (fs : Buf (Elt F) (B.view.loc (thr d L))) (hw : B.view.read (Elt F) fs = w) (f0 g : S67584x2x128.Idx → Elt F .f32)
    (rr : Fin (S128x2x128.size gathers_S67584x2x128_S128x2x128.axis') → Fin (S67584x2x128.size gathers_S67584x2x128_S128x2x128.axis)) (hinj : Function.Injective rr)
    (hg : ∀ (l : Fin 128) (y : Fin 2) (z : Fin 128), g (ix3 (rr l) y z) = w (ix3 l y z))
    (i : S67584x2x128.Idx) (hi : i ∈ SparseCore.namedRows (thr d L) (padAll (dV)).view gathers_S67584x2x128_S128x2x128.axis rr) :
    SparseCore.scatterBuf (thr d L) (padAll (dV)).view gathers_S67584x2x128_S128x2x128.axis rr (SparseCore.scatterRowPayload (thr d L) B gathers_S67584x2x128_S128x2x128 fs) f0 i = g i := by
  obtain ⟨l, -, hl⟩ := Finset.mem_biUnion.mp hi
  rw [SparseCore.scatterBuf_of_mem (thr d L) (padAll (dV)).view _ _ hinj _ _ hl]
  obtain ⟨x, -, hx⟩ := Finset.mem_map.mp hl
  subst hx
  refine (View.write_emb_of_mem (v := (padAll (dV)).view.slice (S67584x2x128.rowRect gathers_S67584x2x128_S128x2x128.axis (rr l))) _ _ (Finset.mem_univ x)).trans ?_
  have hx1 : (x 1).val < 2 := (x 1).isLt
  have hx2 : (x 2).val < 128 := (x 2).isLt
  have e1 : ((padAll (dV)).view.slice (S67584x2x128.rowRect gathers_S67584x2x128_S128x2x128.axis (rr l))).emb x
      = ix3 (rr l) (⟨(x 1).val, hx1⟩ : Fin 2) (⟨(x 2).val, hx2⟩ : Fin 128) := by
    rw [View.emb_slice]
    change (padAll (dV)).view.emb _ = _
    rw [padAll_emb]
    funext a
    match a with
    | 0 => exact (Shape.rowRect_emb_axis gathers_S67584x2x128_S128x2x128.axis _ x)
    | 1 => exact Fin.ext (Shape.rowRect_emb_of_ne gathers_S67584x2x128_S128x2x128.axis _ x (b := 1) (by decide))
    | 2 => exact Fin.ext (Shape.rowRect_emb_of_ne gathers_S67584x2x128_S128x2x128.axis _ x (b := 2) (by decide))
  refine Eq.trans ?_ ((congrArg g e1).trans (hg l _ _)).symm
  subst hw
  show ((B.slice (S128x2x128.rowRect gathers_S67584x2x128_S128x2x128.axis' l) (S128x2x128.stride_rowRect _ _)).view.cast gathers_S67584x2x128_S128x2x128.rowShape_eq rfl).read (Elt F) fs x = _
  refine congrArg (fun i => _root_.cast (congrArg (Elt F) B.view.elt_eq) (fs i)) ?_
  refine congrArg B.view.emb (a₂ := (ix3 l (⟨(x 1).val, hx1⟩ : Fin 2) (⟨(x 2).val, hx2⟩ : Fin 128) : S128x2x128.Idx)) (a₁ := (S128x2x128.rowRect gathers_S67584x2x128_S128x2x128.axis' l).emb ((Shape.idxEquiv gathers_S67584x2x128_S128x2x128.rowShape_eq).symm x)) ?_
  funext a
  match a with
  | 0 => exact Shape.rowRect_emb_axis gathers_S67584x2x128_S128x2x128.axis' _ _
  | 1 => exact Fin.ext ((Shape.rowRect_emb_of_ne gathers_S67584x2x128_S128x2x128.axis' _ _ (b := 1) (by decide)).trans (Shape.idxEquiv_symm_apply_val gathers_S67584x2x128_S128x2x128.rowShape_eq x (1 : Fin 3)))
  | 2 => exact Fin.ext ((Shape.rowRect_emb_of_ne gathers_S67584x2x128_S128x2x128.axis' _ _ (b := 2) (by decide)).trans (Shape.idxEquiv_symm_apply_val gathers_S67584x2x128_S128x2x128.rowShape_eq x (2 : Fin 3)))

/-- Issuing the scatter of a buffer to the rows list row `j` names: the flight brings back those rows of the target holding it. -/
theorem issue (B : Memref sig .scVector .vmem S128x2x128 .f32) (w : S128x2x128.Idx → Elt F .f32) (fi : S16x128.Idx → Elt F .i32)
    (hfi : ∀ r, (fi r).toNat < 67584) (hfinj : Function.Injective fun r => (fi r : BitVec 32).toNat)
    (j : Fin 16) (off : Fin 2 → ℕ) (inb : ∀ a, off a + S1x128.size a ≤ S16x128.size a) (h : off = ![j.val, 0])
    (fs : Buf (Elt F) (B.view.loc (thr d L))) (hw : B.view.read (Elt F) fs = w)
    (hcs : ∀ s' : Shape, sig.dmaCredit Kind.scVector (Kind.scVector.table .vmem) B.view.buf s' .f32 = s'.numel * EltTy.f32.bits)
    (f0 g : S67584x2x128.Idx → Elt F .f32)
    (hg : ∀ (l : Fin 128) (y : Fin 2) (z : Fin 128), g (ix3 (padRow (fi (ix2 j l))) y z) = w (ix3 l y z)) (qo : PosShare TreeShare) (sem : DmaSem sig)
    {hn : S128.numel = S128x2x128.size gathers_S67584x2x128_S128x2x128.axis'}
    {hp : (thr d L).2.kind = .scVector} {he : EltTy.f32.bits = 32} {hsp : Space.hbm = .hbm ∨ Space.hbm = .shared} {hr : S67584x2x128.StreamRows 0}
    {α : Type} {k : PUnit → Prog (TpuEff nD τ sig (Elt F) Λ₀ (thr d L).2) α} {Q : α → sProp 𝕄} :
    iprop((B.view.loc (thr d L) ↦{fullShare} fs) ∗ ((dV).view.loc (thr d L) ↦[rowsOf fi j]{fullShare} f0) ∗ ((iV).view.loc (thr d L) ↦{qo} fi) ∗ semVal (thr d L, SemLoc.dma sem) 0)
      ⊢ iprop((Transfers.Flight countersEmb (thr d L) (.dma sem) (default : HIx 3) B.view.dmaCredit
                iprop(((dV).view.loc (thr d L) ↦[rowsOf fi j]{fullShare} g) ∗ (B.view.loc (thr d L) ↦{fullShare} fs) ∗ ((iV).view.loc (thr d L) ↦{qo} fi))
              -∗ wp frame (wpE (defs₀ (F := F)) 𝒱₀ (thr d L) none) Set.univ (k ⟨⟩) Q)
          -∗ wp frame (wpE (defs₀ (F := F)) 𝒱₀ (thr d L) none) Set.univ
              (SparseCore.enqueueIndirectScatter hp B (padAll (dV)) gathers_S67584x2x128_S128x2x128 (lrow (iV) off inb) hn sem he hsp hr >>= k) Q) := by
  have hin : ∀ x, ((lrow (iV) off inb).view.read (Elt F) fi x).toNat < 67584 := fun x => by rw [lrow_read (iV) j off inb h]; exact hfi _
  have hinj : Function.Injective (SparseCore.rows ((lrow (iV) off inb).view.read (Elt F) fi) hn hin) := by
    apply SparseCore.rows_injective
    intro x y hxy
    dsimp only at hxy
    rw [lrow_read (iV) j off inb h, lrow_read (iV) j off inb h] at hxy
    have := hfinj hxy
    have e := congrFun this 1
    funext a
    match a with
    | 0 => exact e
  have hN : ∑ j, ((padAll (dV)).slice (S67584x2x128.rowRect gathers_S67584x2x128_S128x2x128.axis (SparseCore.rows ((lrow (iV) off inb).view.read (Elt F) fi) hn hin j))
      (S67584x2x128.stride_rowRect gathers_S67584x2x128_S128x2x128.axis _)).view.dmaCredit = B.view.dmaCredit :=
    SparseCore.sum_scatterCredit_eq_srcCredit (thr d L) B (padAll (dV)) gathers_S67584x2x128_S128x2x128 rfl _ hcs (fun _ => rfl)
  have hw' := SparseCore.wp_indirectScatterLocal (U := UU) (Lvl := ℕ) (Name := ℕ) countersEmb 𝒱₀ (thr d L) none (defs := defs₀ (F := F)) (src := B) (dst := padAll (dV)) (hg := gathers_S67584x2x128_S128x2x128)
    (offs := lrow (iV) off inb) (hn := hn) (sem := sem) (hp := hp) (he := he) (hsp := hsp) (hr := hr) (k := k) (Q := Q) (q := fullShare) (qo := qo)
    (fs := fs) (fd := f0) (fo := fi) (default : HIx 3) B.view.dmaCredit (by decide) hin hinj hN
  have hrl : ∀ l, SparseCore.rows ((lrow (iV) off inb).view.read (Elt F) fi) hn hin l = padRow (fi (ix2 j l)) := fun l => by
    apply Fin.ext
    refine (rows_val _ hn hin l).trans ?_
    rw [lrow_read (iV) j off inb h]
    exact (padRow_val (hfi _)).symm
  have hpt : ∀ f : S67584x2x128.Idx → Elt F .f32, ((padAll (dV)).view.loc (thr d L) ↦[SparseCore.namedRows (thr d L) (padAll (dV)).view gathers_S67584x2x128_S128x2x128.axis (SparseCore.rows ((lrow (iV) off inb).view.read (Elt F) fi) hn hin)]{fullShare} f : sProp 𝕄)
      = ((dV).view.loc (thr d L) ↦[rowsOf fi j]{fullShare} f) := fun f =>
    congrArg (fun S => ((dV).view.loc (thr d L) ↦[S]{fullShare} f : sProp 𝕄)) (named_eq d L fi j _ hrl)
  have hgb : ((padAll (dV)).view.loc (thr d L) ↦[SparseCore.namedRows (thr d L) (padAll (dV)).view gathers_S67584x2x128_S128x2x128.axis (SparseCore.rows ((lrow (iV) off inb).view.read (Elt F) fi) hn hin)]{fullShare}
      SparseCore.scatterBuf (thr d L) (padAll (dV)).view gathers_S67584x2x128_S128x2x128.axis (SparseCore.rows ((lrow (iV) off inb).view.read (Elt F) fi) hn hin)
        (SparseCore.scatterRowPayload (thr d L) B gathers_S67584x2x128_S128x2x128 fs) f0 : sProp 𝕄)
      = ((dV).view.loc (thr d L) ↦[rowsOf fi j]{fullShare} g) := by
    have hg' : ∀ (l : Fin 128) (y : Fin 2) (z : Fin 128), g (ix3 (SparseCore.rows ((lrow (iV) off inb).view.read (Elt F) fi) hn hin l) y z) = w (ix3 l y z) := fun l y z =>
      (congrArg (fun r : Fin 67584 => g (ix3 r y z)) (hrl l)).trans (hg l y z)
    refine Eq.trans ?_ (hpt g)
    exact pointsTo_congr (scat_buf d L B w fs hw f0 g _ hinj hg')
  rw [hgb, hpt f0] at hw'
  iintro ⟨Hs, Hd, Ho, Hv⟩ Hk
  ihave ⟨Hs, Hsr⟩ := (pointsTo_split_subset (Finset.subset_univ B.view.set)).1 $$ Hs
  ihave ⟨Ho, Hor⟩ := (pointsTo_split_subset (Finset.subset_univ (lrow (iV) off inb).view.set)).1 $$ Ho
  iapply hw' $$ [Hs Hd Ho Hv]
  · iframe Hs Hd Ho Hv
  iintro Hf
  iapply Hk
  iapply (Transfers.Flight_mono countersEmb (thr d L) (D := iprop(((B.view.loc (thr d L) ↦[Finset.univ \ B.view.set]{fullShare} fs) ∗ ((iV).view.loc (thr d L) ↦[Finset.univ \ (lrow (iV) off inb).view.set]{qo} fi))
      ∗ (((dV).view.loc (thr d L) ↦[rowsOf fi j]{fullShare} g) ∗ (B.view.loc (thr d L) ↦[B.view.set]{fullShare} fs) ∗ ((lrow (iV) off inb).view.loc (thr d L) ↦[(lrow (iV) off inb).view.set]{qo} fi)))) (by
    iintro ⟨⟨Hsr, Hor⟩, Hd, Hs, Ho⟩
    isplitl [Hd]; · iexact Hd
    isplitl [Hs Hsr]
    · iapply ((pointsTo_split_subset (Finset.subset_univ B.view.set)).2)
      iframe Hs Hsr
    iapply ((pointsTo_split_subset (Finset.subset_univ (lrow (iV) off inb).view.set)).2)
    iframe Ho Hor))
  iapply (Transfers.Flight_frame countersEmb (thr d L))
  iframe Hsr Hor Hf

/-- Waiting for a scatter's flight brings what it carries. -/
theorem settle (B : Memref sig .scVector .vmem S128x2x128 .f32) {s' : Shape} {e' : EltTy} {dst : Memref sig .scVector .hbm s' e'} {sem : DmaSem sig}
    {hs : B.view.WordExact} {hd : dst.view.WordExact} {D : sProp 𝕄} {O : CellTallies nD τ sig (HIx 3)} {W : Waits sig (HIx 3)}
    {α : Type} {k : PUnit → Prog (TpuEff nD τ sig (Elt F) Λ₀ (thr d L).2) α} {Q : α → sProp 𝕄} :
    iprop(Transfers.Flight countersEmb (thr d L) (.dma sem) (default : HIx 3) B.view.dmaCredit D ∗ owes (thr d L) O W ∗ MayWait (thr d L) (.dma sem) (default : HIx 3) O)
      ⊢ iprop((iprop(D ∗ semVal (thr d L, SemLoc.dma sem) 0 ∗ owes (thr d L) O (insert (SemLoc.dma sem, (default : HIx 3)) W)) -∗ wp frame (wpE (defs₀ (F := F)) 𝒱₀ (thr d L) none) Set.univ (k ⟨⟩) Q)
          -∗ wp frame (wpE (defs₀ (F := F)) 𝒱₀ (thr d L) none) Set.univ (SparseCore.waitIndirectScatter sem B dst hs hd >>= k) Q) :=
  Transfers.wp_waitLocalO countersEmb 𝒱₀ (thr d L) none (default : HIx 3) rfl

/-- The tile's sixteen rows of the list of row numbers. -/
abbrev pS (L : grid1.Coords) : Memref sig .scVector .hbm S16x128 .i32 := (pV).slice (Rect.unit (s := S512x128) (k1_off1 L) S16x128.size (k1_off1_inb L)) (fun _ => rfl)
abbrev xLoc (d : Dev nD) : Loc nD τ sig := (SparseCore.T d).loc main_v18
abbrev pLoc (d : Dev nD) : Loc nD τ sig := (SparseCore.T d).loc main_v17
abbrev dLoc (d : Dev nD) : Loc nD τ sig := (SparseCore.T d).loc main_v19

/-- The tile's number of rows before it in the list. -/
def lrowOf (L : grid1.Coords) (j : Fin 16) : Fin 512 := ⟨32 * (L 1).val + 16 * (L 0).val + j.val, by
  have h0 : (L 0).val < 2 := (L 0).isLt
  have h1 : (L 1).val < 16 := (L 1).isLt
  omega⟩

/-- The tile's list. -/
def FI (L : grid1.Coords) (ps : S512x128.Idx → Elt F .i32) : S16x128.Idx → Elt F .i32 := fun x => ps (ix2 (lrowOf L (x 0)) (x 1))

theorem pS_emb (L : grid1.Coords) (x : S16x128.Idx) : (pS L).view.emb x = ix2 (lrowOf L (x 0)) (x 1) := by
  rw [show (pS L).view.emb x = (Rect.unit (s := S512x128) (k1_off1 L) S16x128.size (k1_off1_inb L)).emb x from rfl]
  funext a; apply Fin.ext; rw [Rect.emb_apply]
  match a with
  | 0 => simp [k1_off1_eq, lrowOf]
  | 1 => simp [k1_off1_eq]

theorem pS_read (L : grid1.Coords) (ps : S512x128.Idx → Elt F .i32) : (pS L).view.read (Elt F) ps = FI L ps := by
  funext x
  rw [View.read_apply]
  show ps ((pS L).view.emb x) = _
  rw [pS_emb]; rfl

theorem FI_lt (L : grid1.Coords) {ps : S512x128.Idx → Elt F .i32} (h : ∀ r, (ps r).toNat < 67584) (r : S16x128.Idx) : (FI L ps r).toNat < 67584 := h _

theorem FI_inj (L : grid1.Coords) {ps : S512x128.Idx → Elt F .i32} (h : Function.Injective fun r : S512x128.Idx => (ps r : BitVec 32).toNat) :
    Function.Injective fun r : S16x128.Idx => (FI L ps r : BitVec 32).toNat := by
  intro x y hxy
  have e := h hxy
  have e0 := congrArg Fin.val (congrFun e 0)
  have e1 := congrFun e 1
  change 32 * (L 1).val + 16 * (L 0).val + (x 0).val = 32 * (L 1).val + 16 * (L 0).val + (y 0).val at e0
  funext a
  match a with
  | 0 => exact Fin.ext (by omega)
  | 1 => exact e1

/-- The sub-rows that chunk `j` of the tile moves. -/
def TOK (L : grid1.Coords) (xs : S65536x2x128.Idx → Elt F .f32) (j : Fin 16) : S128x2x128.Idx → Elt F .f32 := fun x => xs (ix3 (tokRow (lrowOf L j) (x 0)) (x 1) (x 2))

/-- A chunk of the tile's part of the token array. -/
abbrev xS (off : Fin 3 → ℕ) (inb : ∀ a, off a + S128x2x128.size a ≤ S65536x2x128.size a) : Memref sig .scVector .hbm S128x2x128 .f32 :=
  (xV).slice (Rect.unit (s := S65536x2x128) off S128x2x128.size inb) (fun _ => rfl)

theorem xS_read (L : grid1.Coords) (xs : S65536x2x128.Idx → Elt F .f32) (j : Fin 16) (off : Fin 3 → ℕ) (inb : ∀ a, off a + S128x2x128.size a ≤ S65536x2x128.size a)
    (h : off = ![4096 * (L 1).val + 2048 * (L 0).val + 128 * j.val, 0, 0]) : (xS off inb).view.read (Elt F) xs = TOK L xs j := by
  subst h
  funext x
  rw [View.read_apply]
  show xs ((Rect.unit (s := S65536x2x128) _ S128x2x128.size inb).emb x) = xs _
  congr 1
  funext a; apply Fin.ext; rw [Rect.emb_apply]
  match a with
  | 0 =>
    show 4096 * (L 1).val + 2048 * (L 0).val + 128 * j.val + 1 * (x 0).val = 128 * (32 * (L 1).val + 16 * (L 0).val + j.val) + (x 0).val
    omega
  | 1 => show 0 + 1 * (x 1).val = (x 1).val; omega
  | 2 => show 0 + 1 * (x 2).val = (x 2).val; omega

theorem tok_0 (L : grid1.Coords) (xs : S65536x2x128.Idx → Elt F .f32) : (xS (k1_off2 L) (k1_off2_inb L)).view.read (Elt F) xs = TOK L xs 0 :=
  xS_read L xs 0 _ _ (k1_off2_eq L)
theorem tok_1 (L : grid1.Coords) (xs : S65536x2x128.Idx → Elt F .f32) : (xS (k1_off3 L 16#32) (k1_off3_inb L 0)).view.read (Elt F) xs = TOK L xs 1 :=
  xS_read L xs 1 _ _ ((k1_off3_eq L 0).trans (by rw [show 4096 * (L 1).val + 2048 * (L 0).val + 128 * ((0 : Fin 15) : ℕ) + 128 = 4096 * (L 1).val + 2048 * (L 0).val + 128 * ((1 : Fin 16) : ℕ) from by show _ + 128 * 0 + 128 = _ + 128 * 1; omega]))
theorem tok_2 (L : grid1.Coords) (xs : S65536x2x128.Idx → Elt F .f32) : (xS (k1_off3 L 32#32) (k1_off3_inb L 1)).view.read (Elt F) xs = TOK L xs 2 :=
  xS_read L xs 2 _ _ ((k1_off3_eq L 1).trans (by rw [show 4096 * (L 1).val + 2048 * (L 0).val + 128 * ((1 : Fin 15) : ℕ) + 128 = 4096 * (L 1).val + 2048 * (L 0).val + 128 * ((2 : Fin 16) : ℕ) from by show _ + 128 * 1 + 128 = _ + 128 * 2; omega]))
theorem tok_3 (L : grid1.Coords) (xs : S65536x2x128.Idx → Elt F .f32) : (xS (k1_off3 L 48#32) (k1_off3_inb L 2)).view.read (Elt F) xs = TOK L xs 3 :=
  xS_read L xs 3 _ _ ((k1_off3_eq L 2).trans (by rw [show 4096 * (L 1).val + 2048 * (L 0).val + 128 * ((2 : Fin 15) : ℕ) + 128 = 4096 * (L 1).val + 2048 * (L 0).val + 128 * ((3 : Fin 16) : ℕ) from by show _ + 128 * 2 + 128 = _ + 128 * 3; omega]))
theorem tok_4 (L : grid1.Coords) (xs : S65536x2x128.Idx → Elt F .f32) : (xS (k1_off3 L 64#32) (k1_off3_inb L 3)).view.read (Elt F) xs = TOK L xs 4 :=
  xS_read L xs 4 _ _ ((k1_off3_eq L 3).trans (by rw [show 4096 * (L 1).val + 2048 * (L 0).val + 128 * ((3 : Fin 15) : ℕ) + 128 = 4096 * (L 1).val + 2048 * (L 0).val + 128 * ((4 : Fin 16) : ℕ) from by show _ + 128 * 3 + 128 = _ + 128 * 4; omega]))
theorem tok_5 (L : grid1.Coords) (xs : S65536x2x128.Idx → Elt F .f32) : (xS (k1_off3 L 80#32) (k1_off3_inb L 4)).view.read (Elt F) xs = TOK L xs 5 :=
  xS_read L xs 5 _ _ ((k1_off3_eq L 4).trans (by rw [show 4096 * (L 1).val + 2048 * (L 0).val + 128 * ((4 : Fin 15) : ℕ) + 128 = 4096 * (L 1).val + 2048 * (L 0).val + 128 * ((5 : Fin 16) : ℕ) from by show _ + 128 * 4 + 128 = _ + 128 * 5; omega]))
theorem tok_6 (L : grid1.Coords) (xs : S65536x2x128.Idx → Elt F .f32) : (xS (k1_off3 L 96#32) (k1_off3_inb L 5)).view.read (Elt F) xs = TOK L xs 6 :=
  xS_read L xs 6 _ _ ((k1_off3_eq L 5).trans (by rw [show 4096 * (L 1).val + 2048 * (L 0).val + 128 * ((5 : Fin 15) : ℕ) + 128 = 4096 * (L 1).val + 2048 * (L 0).val + 128 * ((6 : Fin 16) : ℕ) from by show _ + 128 * 5 + 128 = _ + 128 * 6; omega]))
theorem tok_7 (L : grid1.Coords) (xs : S65536x2x128.Idx → Elt F .f32) : (xS (k1_off3 L 112#32) (k1_off3_inb L 6)).view.read (Elt F) xs = TOK L xs 7 :=
  xS_read L xs 7 _ _ ((k1_off3_eq L 6).trans (by rw [show 4096 * (L 1).val + 2048 * (L 0).val + 128 * ((6 : Fin 15) : ℕ) + 128 = 4096 * (L 1).val + 2048 * (L 0).val + 128 * ((7 : Fin 16) : ℕ) from by show _ + 128 * 6 + 128 = _ + 128 * 7; omega]))
theorem tok_8 (L : grid1.Coords) (xs : S65536x2x128.Idx → Elt F .f32) : (xS (k1_off3 L 128#32) (k1_off3_inb L 7)).view.read (Elt F) xs = TOK L xs 8 :=
  xS_read L xs 8 _ _ ((k1_off3_eq L 7).trans (by rw [show 4096 * (L 1).val + 2048 * (L 0).val + 128 * ((7 : Fin 15) : ℕ) + 128 = 4096 * (L 1).val + 2048 * (L 0).val + 128 * ((8 : Fin 16) : ℕ) from by show _ + 128 * 7 + 128 = _ + 128 * 8; omega]))
theorem tok_9 (L : grid1.Coords) (xs : S65536x2x128.Idx → Elt F .f32) : (xS (k1_off3 L 144#32) (k1_off3_inb L 8)).view.read (Elt F) xs = TOK L xs 9 :=
  xS_read L xs 9 _ _ ((k1_off3_eq L 8).trans (by rw [show 4096 * (L 1).val + 2048 * (L 0).val + 128 * ((8 : Fin 15) : ℕ) + 128 = 4096 * (L 1).val + 2048 * (L 0).val + 128 * ((9 : Fin 16) : ℕ) from by show _ + 128 * 8 + 128 = _ + 128 * 9; omega]))
theorem tok_10 (L : grid1.Coords) (xs : S65536x2x128.Idx → Elt F .f32) : (xS (k1_off3 L 160#32) (k1_off3_inb L 9)).view.read (Elt F) xs = TOK L xs 10 :=
  xS_read L xs 10 _ _ ((k1_off3_eq L 9).trans (by rw [show 4096 * (L 1).val + 2048 * (L 0).val + 128 * ((9 : Fin 15) : ℕ) + 128 = 4096 * (L 1).val + 2048 * (L 0).val + 128 * ((10 : Fin 16) : ℕ) from by show _ + 128 * 9 + 128 = _ + 128 * 10; omega]))
theorem tok_11 (L : grid1.Coords) (xs : S65536x2x128.Idx → Elt F .f32) : (xS (k1_off3 L 176#32) (k1_off3_inb L 10)).view.read (Elt F) xs = TOK L xs 11 :=
  xS_read L xs 11 _ _ ((k1_off3_eq L 10).trans (by rw [show 4096 * (L 1).val + 2048 * (L 0).val + 128 * ((10 : Fin 15) : ℕ) + 128 = 4096 * (L 1).val + 2048 * (L 0).val + 128 * ((11 : Fin 16) : ℕ) from by show _ + 128 * 10 + 128 = _ + 128 * 11; omega]))
theorem tok_12 (L : grid1.Coords) (xs : S65536x2x128.Idx → Elt F .f32) : (xS (k1_off3 L 192#32) (k1_off3_inb L 11)).view.read (Elt F) xs = TOK L xs 12 :=
  xS_read L xs 12 _ _ ((k1_off3_eq L 11).trans (by rw [show 4096 * (L 1).val + 2048 * (L 0).val + 128 * ((11 : Fin 15) : ℕ) + 128 = 4096 * (L 1).val + 2048 * (L 0).val + 128 * ((12 : Fin 16) : ℕ) from by show _ + 128 * 11 + 128 = _ + 128 * 12; omega]))
theorem tok_13 (L : grid1.Coords) (xs : S65536x2x128.Idx → Elt F .f32) : (xS (k1_off3 L 208#32) (k1_off3_inb L 12)).view.read (Elt F) xs = TOK L xs 13 :=
  xS_read L xs 13 _ _ ((k1_off3_eq L 12).trans (by rw [show 4096 * (L 1).val + 2048 * (L 0).val + 128 * ((12 : Fin 15) : ℕ) + 128 = 4096 * (L 1).val + 2048 * (L 0).val + 128 * ((13 : Fin 16) : ℕ) from by show _ + 128 * 12 + 128 = _ + 128 * 13; omega]))
theorem tok_14 (L : grid1.Coords) (xs : S65536x2x128.Idx → Elt F .f32) : (xS (k1_off3 L 224#32) (k1_off3_inb L 13)).view.read (Elt F) xs = TOK L xs 14 :=
  xS_read L xs 14 _ _ ((k1_off3_eq L 13).trans (by rw [show 4096 * (L 1).val + 2048 * (L 0).val + 128 * ((13 : Fin 15) : ℕ) + 128 = 4096 * (L 1).val + 2048 * (L 0).val + 128 * ((14 : Fin 16) : ℕ) from by show _ + 128 * 13 + 128 = _ + 128 * 14; omega]))
theorem tok_15 (L : grid1.Coords) (xs : S65536x2x128.Idx → Elt F .f32) : (xS (k1_off3 L 240#32) (k1_off3_inb L 14)).view.read (Elt F) xs = TOK L xs 15 :=
  xS_read L xs 15 _ _ ((k1_off3_eq L 14).trans (by rw [show 4096 * (L 1).val + 2048 * (L 0).val + 128 * ((14 : Fin 15) : ℕ) + 128 = 4096 * (L 1).val + 2048 * (L 0).val + 128 * ((15 : Fin 16) : ℕ) from by show _ + 128 * 14 + 128 = _ + 128 * 15; omega]))

/-- The scattered array at the sub-rows that row `j` of the tile's list names. -/
theorem scat_tile (xs : S65536x2x128.Idx → Elt F .f32) (ps : S512x128.Idx → Elt F .i32) (hps : ∀ r : S512x128.Idx, (ps r : BitVec 32).toNat < 67584)
    (hinj : Function.Injective fun r : S512x128.Idx => (ps r : BitVec 32).toNat) (f0 : S67584x2x128.Idx → Elt F .f32) (j : Fin 16) (l : Fin 128) (y : Fin 2) (z : Fin 128) :
    SCAT xs ps f0 (ix3 (padRow (FI L ps (ix2 j l))) y z) = TOK L xs j (ix3 l y z) :=
  SCAT_at xs ps hps hinj f0 (lrowOf L j) l y z

abbrev cellA : GSem nD τ sig := (thr d L, .dma cc1_scratch3.sem)
abbrev cellB : GSem nD τ sig := (thr d L, .dma cc1_scratch4.sem)
abbrev cellC : GSem nD τ sig := (thr d L, .dma cc1_scratch5.sem)
abbrev cellE : GSem nD τ sig := (thr d L, .dma cc1_scratch6.sem)
abbrev cellG : GSem nD τ sig := (thr d L, .dma cc1_scoped0.sem)

/-- The tile's semaphores: the five the kernel uses, and the rest. -/
theorem ownSems0_V :
    ∃ R : sProp 𝕄, (ownSems0 (thr d L) : sProp 𝕄)
      = iprop(semVal (cellA d L) 0 ∗ semVal (cellB d L) 0 ∗ semVal (cellC d L) 0 ∗ semVal (cellE d L) 0 ∗ semVal (cellG d L) 0 ∗ R) := by
  unfold SparseCore.Cfg.ownSems0
  apply Exists.intro
  have hA : cellA d L ∈ ownCells (thr d L) := mem_ownCells.mpr ⟨rfl, by show (SemLoc.dma cc1_scratch3.sem : SemLoc sig).isScoped .scVector = true; decide⟩
  have hB : cellB d L ∈ ownCells (thr d L) := mem_ownCells.mpr ⟨rfl, by show (SemLoc.dma cc1_scratch4.sem : SemLoc sig).isScoped .scVector = true; decide⟩
  have hC : cellC d L ∈ ownCells (thr d L) := mem_ownCells.mpr ⟨rfl, by show (SemLoc.dma cc1_scratch5.sem : SemLoc sig).isScoped .scVector = true; decide⟩
  have hE : cellE d L ∈ ownCells (thr d L) := mem_ownCells.mpr ⟨rfl, by show (SemLoc.dma cc1_scratch6.sem : SemLoc sig).isScoped .scVector = true; decide⟩
  have hG : cellG d L ∈ ownCells (thr d L) := mem_ownCells.mpr ⟨rfl, by show (SemLoc.dma cc1_scoped0.sem : SemLoc sig).isScoped .scVector = true; decide⟩
  have ne {a b : DmaSem sig} (h : a ≠ b) : ((thr d L, SemLoc.dma a) : GSem nD τ sig) ≠ (thr d L, SemLoc.dma b) := fun e => h (by injection e with _ e; injection e)
  rw [SparseCore.bigSep_erase' hA,
    SparseCore.bigSep_erase' (Finset.mem_erase.mpr ⟨ne (by decide), hB⟩),
    SparseCore.bigSep_erase' (Finset.mem_erase.mpr ⟨ne (by decide), Finset.mem_erase.mpr ⟨ne (by decide), hC⟩⟩),
    SparseCore.bigSep_erase' (Finset.mem_erase.mpr ⟨ne (by decide), Finset.mem_erase.mpr ⟨ne (by decide), Finset.mem_erase.mpr ⟨ne (by decide), hE⟩⟩⟩),
    SparseCore.bigSep_erase' (Finset.mem_erase.mpr ⟨ne (by decide), Finset.mem_erase.mpr ⟨ne (by decide), Finset.mem_erase.mpr ⟨ne (by decide), Finset.mem_erase.mpr ⟨ne (by decide), hG⟩⟩⟩⟩)]

/-- The tile's buffers: the three the kernel uses, at some contents, and the rest. -/
theorem ownBufs_V :
    ∃ R : sProp 𝕄, (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f) ∗ R) := by
  unfold SparseCore.Cfg.ownBufs
  apply Exists.intro
  have ne {a b : Ref sig .scVector} (h : a ≠ b) : (Proc.scVector (cV L) (jV L)).devRef a ≠ (Proc.scVector (cV L) (jV L)).devRef b := fun e => h (Proc.devRef_injective _ e)
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨ne (show (cc1_scratch1 : Ref sig .scVector) ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨ne (show (cc1_scratch2 : Ref sig .scVector) ≠ cc1_scratch1 by decide),
      Finset.mem_erase.mpr ⟨ne (show (cc1_scratch2 : Ref sig .scVector) ≠ cc1_scratch0 by decide), SparseCore.Cfg.mem_ownRefs_of_owner (p := Proc.scVector (cV L) (jV L)) (b := (Proc.scVector (cV L) (jV L)).devRef cc1_scratch2) rfl⟩⟩)]

/-- The sub-rows the tile writes, list row by list row. -/
theorem rows_eq (ps : S512x128.Idx → Elt F .i32) (f : S67584x2x128.Idx → Elt F .f32) :
    (bigSep Finset.univ fun j : Fin 16 => (dLoc d ↦[rowsAt ps (lrowOf L j)]{fullShare} f : sProp 𝕄))
      = iprop(((dV).view.loc (thr d L) ↦[rowsOf (FI L ps) 0]{fullShare} f) ∗ ((dV).view.loc (thr d L) ↦[rowsOf (FI L ps) 1]{fullShare} f) ∗ ((dV).view.loc (thr d L) ↦[rowsOf (FI L ps) 2]{fullShare} f) ∗ ((dV).view.loc (thr d L) ↦[rowsOf (FI L ps) 3]{fullShare} f) ∗ ((dV).view.loc (thr d L) ↦[rowsOf (FI L ps) 4]{fullShare} f) ∗ ((dV).view.loc (thr d L) ↦[rowsOf (FI L ps) 5]{fullShare} f) ∗ ((dV).view.loc (thr d L) ↦[rowsOf (FI L ps) 6]{fullShare} f) ∗ ((dV).view.loc (thr d L) ↦[rowsOf (FI L ps) 7]{fullShare} f) ∗ ((dV).view.loc (thr d L) ↦[rowsOf (FI L ps) 8]{fullShare} f) ∗ ((dV).view.loc (thr d L) ↦[rowsOf (FI L ps) 9]{fullShare} f) ∗ ((dV).view.loc (thr d L) ↦[rowsOf (FI L ps) 10]{fullShare} f) ∗ ((dV).view.loc (thr d L) ↦[rowsOf (FI L ps) 11]{fullShare} f) ∗ ((dV).view.loc (thr d L) ↦[rowsOf (FI L ps) 12]{fullShare} f) ∗ ((dV).view.loc (thr d L) ↦[rowsOf (FI L ps) 13]{fullShare} f) ∗ ((dV).view.loc (thr d L) ↦[rowsOf (FI L ps) 14]{fullShare} f) ∗ ((dV).view.loc (thr d L) ↦[rowsOf (FI L ps) 15]{fullShare} f)) := by
  rw [bigSep_univ_eq_bigSepL [0, 1, 2, 3, 4, 5, 6, 7, 8, 9, 10, 11, 12, 13, 14, 15] (by decide) (by decide)]
  rfl

set_option maxHeartbeats 8000000 in
set_option maxRecDepth 16384 in
/-- A tile's run of the scatter kernel, from its shares of the tokens and of the list and the sub-rows it names, leaves those sub-rows at the scattered array. -/
theorem tile_body (hF : (K (F := F)).Facts) (xs : Buf (Elt F) (xLoc d)) (ps : Buf (Elt F) (pLoc d)) (hps : ∀ r : S512x128.Idx, (ps r : BitVec 32).toNat < 67584)
    (hinj : Function.Injective fun r : S512x128.Idx => (ps r : BitVec 32).toNat) (f0 : Buf (Elt F) (dLoc d))
    (q qp : PosShare TreeShare) (O : CellTallies nD τ sig (HIx 3)) (W : Waits sig (HIx 3)) (hO : ∀ g, O g none = 0) :
    iprop(levAts (K (F := F)).L (K (F := F)).lev ∗ emp
        ∗ ((xLoc d ↦{q} xs) ∗ (pLoc d ↦{qp} ps) ∗ bigSep Finset.univ fun j : Fin 16 => (dLoc d ↦[rowsAt ps (lrowOf L j)]{fullShare} f0 : sProp 𝕄))
        ∗ scopedBufs (thr d L) ∗ scopedSems0 (thr d L) ∗ owes (thr d L) O W)
      ⊢ wp frame (wpE (defs₀ (F := F)) 𝒱₀ (thr d L) none) Set.univ
          (cc1__scatter_x L xV (Memref.isWhole_whole _) pV (Memref.isWhole_whole _) dV (Memref.isWhole_whole _)
            iV (Memref.isWhole_whole _) aV (Memref.isWhole_whole _) bV (Memref.isWhole_whole _) cc1_scratch3 cc1_scratch4 cc1_scratch5 cc1_scratch6 cc1_scoped0)
          fun _ => iprop((bigSep Finset.univ fun j : Fin 16 => (dLoc d ↦[rowsAt ps (lrowOf L j)]{fullShare} SCAT xs ps f0 : sProp 𝕄))
            ∗ scopedBufs (thr d L) ∗ scopedSems0 (thr d L)
            ∗ ∃ W', ⌜∀ p ∈ W', p ∈ W ∨ p.2 = none⌝ ∗ owes (thr d L) O W') := by
  obtain ⟨RS, hRS⟩ := ownSems0_V (F := F) d L
  obtain ⟨RB, hRB⟩ := ownBufs_V (F := F) d L
  simp only [cc1__scatter_x_eq_skeleton]
  unfold cc1__scatter_x_skel
  simp only [k1_part10_eq_skeleton]; unfold k1_part10_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  simp only [k1_part8_eq_skeleton]; unfold k1_part8_skel
  simp only [k1_part9_eq_skeleton]; unfold k1_part9_skel
  simp only [bind_assoc, pure_bind]
  rw [(K (F := F)).scopedBufs_V hF d (cV L) (jV L), SparseCore.Cfg.scopedSems0_V (Val := Elt F) d (cV L) (jV L), hRS, hRB, rows_eq]
  iintro ⟨#Hlv, -, ⟨Hx, Hp, Hr0, Hr1, Hr2, Hr3, Hr4, Hr5, Hr6, Hr7, Hr8, Hr9, Hr10, Hr11, Hr12, Hr13, Hr14, Hr15⟩, ⟨⟨%fi, Hi⟩, ⟨%fa, Ha⟩, ⟨%fb, Hb⟩, Hbufs⟩, ⟨HA, HB, HC, HE, HG, Hsems⟩, HO⟩
  ihave Hmw := (show (levAts (K (F := F)).L (K (F := F)).lev : sProp 𝕄) ⊢ Transfers.MayWaits (thr d L) (default : HIx 3) O from
    (K (F := F)).mayWaits_none (thr := thr d L) hO) $$ Hlv
  ihave ⟨Hp, -⟩ := (pointsTo_split_subset (q := qp) (f := ps) (S := Finset.univ) (Finset.subset_univ (pS L).view.set)).1 $$ Hp
  ihave Hp := (show (pLoc d ↦[(pS L).view.set]{qp} ps : sProp 𝕄) ⊢ (pS L).view.loc (thr d L) ↦[(pS L).view.set]{qp} ps from Entails.of_eq rfl) $$ Hp
  ihave Hx := (show (xLoc d ↦{q} xs : sProp 𝕄) ⊢ (xV).view.loc (thr d L) ↦{q} xs from Entails.of_eq rfl) $$ Hx
  ihave Hi := (show ((thr d L).loc cc1_scratch0 ↦{fullShare} fi : sProp 𝕄) ⊢ (iV).view.loc (thr d L) ↦{fullShare} fi from Entails.of_eq rfl) $$ Hi
  ihave Ha := (show ((thr d L).loc cc1_scratch1 ↦{fullShare} fa : sProp 𝕄) ⊢ (aV).view.loc (thr d L) ↦{fullShare} fa from Entails.of_eq rfl) $$ Ha
  ihave Hb := (show ((thr d L).loc cc1_scratch2 ↦{fullShare} fb : sProp 𝕄) ⊢ (bV).view.loc (thr d L) ↦{fullShare} fb from Entails.of_eq rfl) $$ Hb
  sl_exec
  have hfi := FI_lt L hps
  have hfj := FI_inj L hinj
  ihave Hi := (show ((iV).view.loc (thr d L) ↦{fullShare} View.write (Elt F) (iV).view fi (tile_body.sl.dma0 d L ps) Finset.univ : sProp 𝕄) ⊢ (iV).view.loc (thr d L) ↦{fullShare} FI L ps
    from Entails.of_eq (by rw [View.write_whole_univ]; exact congrArg _ (pS_read L ps))) $$ Hi
  ihave ⟨Hi, Hi'⟩ := (pointsTo_share (PosShare.mem_left_op_right fullShare)).1 $$ Hi
  ihave Ha := (show ((aV).view.loc (thr d L) ↦{fullShare} View.write (Elt F) (aV).view (fa) (tile_body.sl.dma0_1 d L xs) Finset.univ : sProp 𝕄) ⊢ (aV).view.loc (thr d L) ↦{fullShare} TOK L xs 0
    from Entails.of_eq (by rw [View.write_whole_univ]; exact congrArg _ (tok_0 L xs))) $$ Ha
  iapply (issue d L (aV) (TOK L xs 0) (FI L ps) hfi hfj 0 ![0, 0] inb_S16x128_S1x128_0_0 rfl (TOK L xs 0) (View.read_whole _ _) (fun _ => rfl) f0 (SCAT xs ps f0) (scat_tile L xs ps hps hinj f0 0) fullShare.left cc1_scratch5.sem) $$ [Ha Hr0 Hi HC]
  · iframe Ha Hr0 Hi HC
  iintro Hfa
  iapply (settle d L (aV)) $$ [Hfa HO]
  · isplitl [Hfa]; · iexact Hfa
    isplitl [HO]; · iexact HO
    iapply (Transfers.MayWaits.elim (SemLoc.dma cc1_scratch5.sem)) $$ Hmw
  iintro ⟨⟨Hr0, Ha, Hi⟩, HC, HO⟩
  sl_exec
  ihave Hb := (show ((bV).view.loc (thr d L) ↦{fullShare} View.write (Elt F) (bV).view (fb) (tile_body.sl.dma0_2 d L xs) Finset.univ : sProp 𝕄) ⊢ (bV).view.loc (thr d L) ↦{fullShare} TOK L xs 1
    from Entails.of_eq (by rw [View.write_whole_univ]; exact congrArg _ (tok_1 L xs))) $$ Hb
  iapply (issue d L (bV) (TOK L xs 1) (FI L ps) hfi hfj 1 ![1, 0] inb_S16x128_S1x128_1_0 rfl (TOK L xs 1) (View.read_whole _ _) (fun _ => rfl) f0 (SCAT xs ps f0) (scat_tile L xs ps hps hinj f0 1) fullShare.right cc1_scratch6.sem) $$ [Hb Hr1 Hi' HE]
  · iframe Hb Hr1 Hi' HE
  iintro Hfb
  iapply (settle d L (bV)) $$ [Hfb HO]
  · isplitl [Hfb]; · iexact Hfb
    isplitl [HO]; · iexact HO
    iapply (Transfers.MayWaits.elim (SemLoc.dma cc1_scratch6.sem)) $$ Hmw
  iintro ⟨⟨Hr1, Hb, Hi'⟩, HE, HO⟩
  sl_exec
  ihave Ha := (show ((aV).view.loc (thr d L) ↦{fullShare} View.write (Elt F) (aV).view (TOK L xs 0) (tile_body.sl.dma0_3 d L xs) Finset.univ : sProp 𝕄) ⊢ (aV).view.loc (thr d L) ↦{fullShare} TOK L xs 2
    from Entails.of_eq (by rw [View.write_whole_univ]; exact congrArg _ (tok_2 L xs))) $$ Ha
  iapply (issue d L (aV) (TOK L xs 2) (FI L ps) hfi hfj 2 ![2, 0] inb_S16x128_S1x128_2_0 rfl (TOK L xs 2) (View.read_whole _ _) (fun _ => rfl) f0 (SCAT xs ps f0) (scat_tile L xs ps hps hinj f0 2) fullShare.left cc1_scratch5.sem) $$ [Ha Hr2 Hi HC]
  · iframe Ha Hr2 Hi HC
  iintro Hfa
  iapply (settle d L (aV)) $$ [Hfa HO]
  · isplitl [Hfa]; · iexact Hfa
    isplitl [HO]; · iexact HO
    iapply (Transfers.MayWaits.elim (SemLoc.dma cc1_scratch5.sem)) $$ Hmw
  iintro ⟨⟨Hr2, Ha, Hi⟩, HC, HO⟩
  sl_exec
  ihave Hb := (show ((bV).view.loc (thr d L) ↦{fullShare} View.write (Elt F) (bV).view (TOK L xs 1) (tile_body.sl.dma0_4 d L xs) Finset.univ : sProp 𝕄) ⊢ (bV).view.loc (thr d L) ↦{fullShare} TOK L xs 3
    from Entails.of_eq (by rw [View.write_whole_univ]; exact congrArg _ (tok_3 L xs))) $$ Hb
  iapply (issue d L (bV) (TOK L xs 3) (FI L ps) hfi hfj 3 ![3, 0] inb_S16x128_S1x128_3_0 rfl (TOK L xs 3) (View.read_whole _ _) (fun _ => rfl) f0 (SCAT xs ps f0) (scat_tile L xs ps hps hinj f0 3) fullShare.right cc1_scratch6.sem) $$ [Hb Hr3 Hi' HE]
  · iframe Hb Hr3 Hi' HE
  iintro Hfb
  iapply (settle d L (bV)) $$ [Hfb HO]
  · isplitl [Hfb]; · iexact Hfb
    isplitl [HO]; · iexact HO
    iapply (Transfers.MayWaits.elim (SemLoc.dma cc1_scratch6.sem)) $$ Hmw
  iintro ⟨⟨Hr3, Hb, Hi'⟩, HE, HO⟩
  sl_exec
  ihave Ha := (show ((aV).view.loc (thr d L) ↦{fullShare} View.write (Elt F) (aV).view (TOK L xs 2) (tile_body.sl.dma0_5 d L xs) Finset.univ : sProp 𝕄) ⊢ (aV).view.loc (thr d L) ↦{fullShare} TOK L xs 4
    from Entails.of_eq (by rw [View.write_whole_univ]; exact congrArg _ (tok_4 L xs))) $$ Ha
  iapply (issue d L (aV) (TOK L xs 4) (FI L ps) hfi hfj 4 ![4, 0] inb_S16x128_S1x128_4_0 rfl (TOK L xs 4) (View.read_whole _ _) (fun _ => rfl) f0 (SCAT xs ps f0) (scat_tile L xs ps hps hinj f0 4) fullShare.left cc1_scratch5.sem) $$ [Ha Hr4 Hi HC]
  · iframe Ha Hr4 Hi HC
  iintro Hfa
  iapply (settle d L (aV)) $$ [Hfa HO]
  · isplitl [Hfa]; · iexact Hfa
    isplitl [HO]; · iexact HO
    iapply (Transfers.MayWaits.elim (SemLoc.dma cc1_scratch5.sem)) $$ Hmw
  iintro ⟨⟨Hr4, Ha, Hi⟩, HC, HO⟩
  sl_exec
  ihave Hb := (show ((bV).view.loc (thr d L) ↦{fullShare} View.write (Elt F) (bV).view (TOK L xs 3) (tile_body.sl.dma0_6 d L xs) Finset.univ : sProp 𝕄) ⊢ (bV).view.loc (thr d L) ↦{fullShare} TOK L xs 5
    from Entails.of_eq (by rw [View.write_whole_univ]; exact congrArg _ (tok_5 L xs))) $$ Hb
  iapply (issue d L (bV) (TOK L xs 5) (FI L ps) hfi hfj 5 ![5, 0] inb_S16x128_S1x128_5_0 rfl (TOK L xs 5) (View.read_whole _ _) (fun _ => rfl) f0 (SCAT xs ps f0) (scat_tile L xs ps hps hinj f0 5) fullShare.right cc1_scratch6.sem) $$ [Hb Hr5 Hi' HE]
  · iframe Hb Hr5 Hi' HE
  iintro Hfb
  iapply (settle d L (bV)) $$ [Hfb HO]
  · isplitl [Hfb]; · iexact Hfb
    isplitl [HO]; · iexact HO
    iapply (Transfers.MayWaits.elim (SemLoc.dma cc1_scratch6.sem)) $$ Hmw
  iintro ⟨⟨Hr5, Hb, Hi'⟩, HE, HO⟩
  sl_exec
  ihave Ha := (show ((aV).view.loc (thr d L) ↦{fullShare} View.write (Elt F) (aV).view (TOK L xs 4) (tile_body.sl.dma0_7 d L xs) Finset.univ : sProp 𝕄) ⊢ (aV).view.loc (thr d L) ↦{fullShare} TOK L xs 6
    from Entails.of_eq (by rw [View.write_whole_univ]; exact congrArg _ (tok_6 L xs))) $$ Ha
  iapply (issue d L (aV) (TOK L xs 6) (FI L ps) hfi hfj 6 ![6, 0] inb_S16x128_S1x128_6_0 rfl (TOK L xs 6) (View.read_whole _ _) (fun _ => rfl) f0 (SCAT xs ps f0) (scat_tile L xs ps hps hinj f0 6) fullShare.left cc1_scratch5.sem) $$ [Ha Hr6 Hi HC]
  · iframe Ha Hr6 Hi HC
  iintro Hfa
  iapply (settle d L (aV)) $$ [Hfa HO]
  · isplitl [Hfa]; · iexact Hfa
    isplitl [HO]; · iexact HO
    iapply (Transfers.MayWaits.elim (SemLoc.dma cc1_scratch5.sem)) $$ Hmw
  iintro ⟨⟨Hr6, Ha, Hi⟩, HC, HO⟩
  sl_exec
  ihave Hb := (show ((bV).view.loc (thr d L) ↦{fullShare} View.write (Elt F) (bV).view (TOK L xs 5) (tile_body.sl.dma0_8 d L xs) Finset.univ : sProp 𝕄) ⊢ (bV).view.loc (thr d L) ↦{fullShare} TOK L xs 7
    from Entails.of_eq (by rw [View.write_whole_univ]; exact congrArg _ (tok_7 L xs))) $$ Hb
  iapply (issue d L (bV) (TOK L xs 7) (FI L ps) hfi hfj 7 ![7, 0] inb_S16x128_S1x128_7_0 rfl (TOK L xs 7) (View.read_whole _ _) (fun _ => rfl) f0 (SCAT xs ps f0) (scat_tile L xs ps hps hinj f0 7) fullShare.right cc1_scratch6.sem) $$ [Hb Hr7 Hi' HE]
  · iframe Hb Hr7 Hi' HE
  iintro Hfb
  iapply (settle d L (bV)) $$ [Hfb HO]
  · isplitl [Hfb]; · iexact Hfb
    isplitl [HO]; · iexact HO
    iapply (Transfers.MayWaits.elim (SemLoc.dma cc1_scratch6.sem)) $$ Hmw
  iintro ⟨⟨Hr7, Hb, Hi'⟩, HE, HO⟩
  sl_exec
  ihave Ha := (show ((aV).view.loc (thr d L) ↦{fullShare} View.write (Elt F) (aV).view (TOK L xs 6) (tile_body.sl.dma0_9 d L xs) Finset.univ : sProp 𝕄) ⊢ (aV).view.loc (thr d L) ↦{fullShare} TOK L xs 8
    from Entails.of_eq (by rw [View.write_whole_univ]; exact congrArg _ (tok_8 L xs))) $$ Ha
  iapply (issue d L (aV) (TOK L xs 8) (FI L ps) hfi hfj 8 ![8, 0] inb_S16x128_S1x128_8_0 rfl (TOK L xs 8) (View.read_whole _ _) (fun _ => rfl) f0 (SCAT xs ps f0) (scat_tile L xs ps hps hinj f0 8) fullShare.left cc1_scratch5.sem) $$ [Ha Hr8 Hi HC]
  · iframe Ha Hr8 Hi HC
  iintro Hfa
  iapply (settle d L (aV)) $$ [Hfa HO]
  · isplitl [Hfa]; · iexact Hfa
    isplitl [HO]; · iexact HO
    iapply (Transfers.MayWaits.elim (SemLoc.dma cc1_scratch5.sem)) $$ Hmw
  iintro ⟨⟨Hr8, Ha, Hi⟩, HC, HO⟩
  sl_exec
  ihave Hb := (show ((bV).view.loc (thr d L) ↦{fullShare} View.write (Elt F) (bV).view (TOK L xs 7) (tile_body.sl.dma0_10 d L xs) Finset.univ : sProp 𝕄) ⊢ (bV).view.loc (thr d L) ↦{fullShare} TOK L xs 9
    from Entails.of_eq (by rw [View.write_whole_univ]; exact congrArg _ (tok_9 L xs))) $$ Hb
  iapply (issue d L (bV) (TOK L xs 9) (FI L ps) hfi hfj 9 ![9, 0] inb_S16x128_S1x128_9_0 rfl (TOK L xs 9) (View.read_whole _ _) (fun _ => rfl) f0 (SCAT xs ps f0) (scat_tile L xs ps hps hinj f0 9) fullShare.right cc1_scratch6.sem) $$ [Hb Hr9 Hi' HE]
  · iframe Hb Hr9 Hi' HE
  iintro Hfb
  iapply (settle d L (bV)) $$ [Hfb HO]
  · isplitl [Hfb]; · iexact Hfb
    isplitl [HO]; · iexact HO
    iapply (Transfers.MayWaits.elim (SemLoc.dma cc1_scratch6.sem)) $$ Hmw
  iintro ⟨⟨Hr9, Hb, Hi'⟩, HE, HO⟩
  sl_exec
  ihave Ha := (show ((aV).view.loc (thr d L) ↦{fullShare} View.write (Elt F) (aV).view (TOK L xs 8) (tile_body.sl.dma0_11 d L xs) Finset.univ : sProp 𝕄) ⊢ (aV).view.loc (thr d L) ↦{fullShare} TOK L xs 10
    from Entails.of_eq (by rw [View.write_whole_univ]; exact congrArg _ (tok_10 L xs))) $$ Ha
  iapply (issue d L (aV) (TOK L xs 10) (FI L ps) hfi hfj 10 ![10, 0] inb_S16x128_S1x128_10_0 rfl (TOK L xs 10) (View.read_whole _ _) (fun _ => rfl) f0 (SCAT xs ps f0) (scat_tile L xs ps hps hinj f0 10) fullShare.left cc1_scratch5.sem) $$ [Ha Hr10 Hi HC]
  · iframe Ha Hr10 Hi HC
  iintro Hfa
  iapply (settle d L (aV)) $$ [Hfa HO]
  · isplitl [Hfa]; · iexact Hfa
    isplitl [HO]; · iexact HO
    iapply (Transfers.MayWaits.elim (SemLoc.dma cc1_scratch5.sem)) $$ Hmw
  iintro ⟨⟨Hr10, Ha, Hi⟩, HC, HO⟩
  sl_exec
  ihave Hb := (show ((bV).view.loc (thr d L) ↦{fullShare} View.write (Elt F) (bV).view (TOK L xs 9) (tile_body.sl.dma0_12 d L xs) Finset.univ : sProp 𝕄) ⊢ (bV).view.loc (thr d L) ↦{fullShare} TOK L xs 11
    from Entails.of_eq (by rw [View.write_whole_univ]; exact congrArg _ (tok_11 L xs))) $$ Hb
  iapply (issue d L (bV) (TOK L xs 11) (FI L ps) hfi hfj 11 ![11, 0] inb_S16x128_S1x128_11_0 rfl (TOK L xs 11) (View.read_whole _ _) (fun _ => rfl) f0 (SCAT xs ps f0) (scat_tile L xs ps hps hinj f0 11) fullShare.right cc1_scratch6.sem) $$ [Hb Hr11 Hi' HE]
  · iframe Hb Hr11 Hi' HE
  iintro Hfb
  iapply (settle d L (bV)) $$ [Hfb HO]
  · isplitl [Hfb]; · iexact Hfb
    isplitl [HO]; · iexact HO
    iapply (Transfers.MayWaits.elim (SemLoc.dma cc1_scratch6.sem)) $$ Hmw
  iintro ⟨⟨Hr11, Hb, Hi'⟩, HE, HO⟩
  sl_exec
  ihave Ha := (show ((aV).view.loc (thr d L) ↦{fullShare} View.write (Elt F) (aV).view (TOK L xs 10) (tile_body.sl.dma0_13 d L xs) Finset.univ : sProp 𝕄) ⊢ (aV).view.loc (thr d L) ↦{fullShare} TOK L xs 12
    from Entails.of_eq (by rw [View.write_whole_univ]; exact congrArg _ (tok_12 L xs))) $$ Ha
  iapply (issue d L (aV) (TOK L xs 12) (FI L ps) hfi hfj 12 ![12, 0] inb_S16x128_S1x128_12_0 rfl (TOK L xs 12) (View.read_whole _ _) (fun _ => rfl) f0 (SCAT xs ps f0) (scat_tile L xs ps hps hinj f0 12) fullShare.left cc1_scratch5.sem) $$ [Ha Hr12 Hi HC]
  · iframe Ha Hr12 Hi HC
  iintro Hfa
  iapply (settle d L (aV)) $$ [Hfa HO]
  · isplitl [Hfa]; · iexact Hfa
    isplitl [HO]; · iexact HO
    iapply (Transfers.MayWaits.elim (SemLoc.dma cc1_scratch5.sem)) $$ Hmw
  iintro ⟨⟨Hr12, Ha, Hi⟩, HC, HO⟩
  sl_exec
  ihave Hb := (show ((bV).view.loc (thr d L) ↦{fullShare} View.write (Elt F) (bV).view (TOK L xs 11) (tile_body.sl.dma0_14 d L xs) Finset.univ : sProp 𝕄) ⊢ (bV).view.loc (thr d L) ↦{fullShare} TOK L xs 13
    from Entails.of_eq (by rw [View.write_whole_univ]; exact congrArg _ (tok_13 L xs))) $$ Hb
  iapply (issue d L (bV) (TOK L xs 13) (FI L ps) hfi hfj 13 ![13, 0] inb_S16x128_S1x128_13_0 rfl (TOK L xs 13) (View.read_whole _ _) (fun _ => rfl) f0 (SCAT xs ps f0) (scat_tile L xs ps hps hinj f0 13) fullShare.right cc1_scratch6.sem) $$ [Hb Hr13 Hi' HE]
  · iframe Hb Hr13 Hi' HE
  iintro Hfb
  iapply (settle d L (bV)) $$ [Hfb HO]
  · isplitl [Hfb]; · iexact Hfb
    isplitl [HO]; · iexact HO
    iapply (Transfers.MayWaits.elim (SemLoc.dma cc1_scratch6.sem)) $$ Hmw
  iintro ⟨⟨Hr13, Hb, Hi'⟩, HE, HO⟩
  sl_exec
  ihave Ha := (show ((aV).view.loc (thr d L) ↦{fullShare} View.write (Elt F) (aV).view (TOK L xs 12) (tile_body.sl.dma0_15 d L xs) Finset.univ : sProp 𝕄) ⊢ (aV).view.loc (thr d L) ↦{fullShare} TOK L xs 14
    from Entails.of_eq (by rw [View.write_whole_univ]; exact congrArg _ (tok_14 L xs))) $$ Ha
  iapply (issue d L (aV) (TOK L xs 14) (FI L ps) hfi hfj 14 ![14, 0] inb_S16x128_S1x128_14_0 rfl (TOK L xs 14) (View.read_whole _ _) (fun _ => rfl) f0 (SCAT xs ps f0) (scat_tile L xs ps hps hinj f0 14) fullShare.left cc1_scratch5.sem) $$ [Ha Hr14 Hi HC]
  · iframe Ha Hr14 Hi HC
  iintro Hfa
  sl_exec
  ihave Hb := (show ((bV).view.loc (thr d L) ↦{fullShare} View.write (Elt F) (bV).view (TOK L xs 13) (tile_body.sl.dma0_16 d L xs) Finset.univ : sProp 𝕄) ⊢ (bV).view.loc (thr d L) ↦{fullShare} TOK L xs 15
    from Entails.of_eq (by rw [View.write_whole_univ]; exact congrArg _ (tok_15 L xs))) $$ Hb
  iapply (issue d L (bV) (TOK L xs 15) (FI L ps) hfi hfj 15 ![15, 0] inb_S16x128_S1x128_15_0 rfl (TOK L xs 15) (View.read_whole _ _) (fun _ => rfl) f0 (SCAT xs ps f0) (scat_tile L xs ps hps hinj f0 15) fullShare.right cc1_scratch6.sem) $$ [Hb Hr15 Hi' HE]
  · iframe Hb Hr15 Hi' HE
  iintro Hfb
  iapply (settle d L (aV)) $$ [Hfa HO]
  · isplitl [Hfa]; · iexact Hfa
    isplitl [HO]; · iexact HO
    iapply (Transfers.MayWaits.elim (SemLoc.dma cc1_scratch5.sem)) $$ Hmw
  iintro ⟨⟨Hr14, Ha, Hi⟩, HC, HO⟩
  iapply (settle d L (bV)) $$ [Hfb HO]
  · isplitl [Hfb]; · iexact Hfb
    isplitl [HO]; · iexact HO
    iapply (Transfers.MayWaits.elim (SemLoc.dma cc1_scratch6.sem)) $$ Hmw
  iintro ⟨⟨Hr15, Hb, Hi'⟩, HE, HO⟩
  sl_step
  isplitl [Hr0 Hr1 Hr2 Hr3 Hr4 Hr5 Hr6 Hr7 Hr8 Hr9 Hr10 Hr11 Hr12 Hr13 Hr14 Hr15]
  · iapply (Entails.of_eq (rows_eq d L ps (SCAT xs ps f0)).symm)
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    iexact Hr15
  isplitl [Hi Hi' Ha Hb Hbufs]
  · isplitl [Hi Hi']
    · iexists (FI L ps)
      iapply ((pointsTo_share (PosShare.mem_left_op_right fullShare)).2)
      isplitl [Hi]; · iexact Hi
      iexact Hi'
    isplitl [Ha]; · iexists _; iexact Ha
    isplitl [Hb]; · iexists _; iexact Hb
    iexact Hbufs
  isplitl [HA HB HC HE HG Hsems]
  · isplitl [HA]; · iexact HA
    isplitl [HB]; · iexact HB
    isplitl [HC]; · iexact HC
    isplitl [HE]; · iexact HE
    isplitl [HG]; · iexact HG
    iexact Hsems
  iexists _; isplitr
  swap; · iexact HO
  ipureintro; intro p hp
  repeat' rcases Finset.mem_insert.mp hp with hp | hp
  all_goals first | exact .inl hp | exact .inr (hp ▸ rfl)

end Sc

end Cert.Proof.Route

end
-- ==== Proof.Gather.lean ====
/-
  The second gather kernel (the third SparseCore call): what a tile's run leaves in its part of the output.
-/
module

public import proofs.«01_k».proof.Proof.Lists

@[expose] public section

noncomputable section

namespace Cert.Proof.Route

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

namespace Ga

local notation "oV" => (Memref.whole Cert.KernelIdeal.main_v24_scv : Memref Cert.KernelIdeal.sig Kind.scVector Space.hbm Cert.KernelIdeal.S67584x2x128 EltTy.f32)
local notation "pV" => (Memref.whole Cert.KernelIdeal.main_v17_scv : Memref Cert.KernelIdeal.sig Kind.scVector Space.hbm Cert.KernelIdeal.S512x128 EltTy.i32)
local notation "rV" => (Memref.whole Cert.KernelIdeal.main_v25_scv : Memref Cert.KernelIdeal.sig Kind.scVector Space.hbm Cert.KernelIdeal.S65536x2x128 EltTy.f32)
local notation "iV" => (Memref.whole Cert.KernelIdeal.cc3_scratch0 : Memref Cert.KernelIdeal.sig Kind.scVector Space.vmem Cert.KernelIdeal.S16x128 EltTy.i32)
local notation "aV" => (Memref.whole Cert.KernelIdeal.cc3_scratch1 : Memref Cert.KernelIdeal.sig Kind.scVector Space.vmem Cert.KernelIdeal.S128x2x128 EltTy.f32)
local notation "bV" => (Memref.whole Cert.KernelIdeal.cc3_scratch2 : Memref Cert.KernelIdeal.sig Kind.scVector Space.vmem Cert.KernelIdeal.S128x2x128 EltTy.f32)

variable (d : Dev nD) (L : grid3.Coords)

abbrev cV (L : grid3.Coords) : Fin τ.nSC := (L 0).castLE hcore3
abbrev jV (L : grid3.Coords) : Fin τ.nSub := (L 1).castLE hsub3
abbrev thr : Thread nD τ := V d (cV L) (jV L)

/-- The array of sub-rows gathered from `op` at the row numbers `ps` holds. -/
def GATH (op : S67584x2x128.Idx → Elt F .f32) (ps : S512x128.Idx → Elt F .i32) : S65536x2x128.Idx → Elt F .f32 := fun i =>
  op (ix3 (padRow (ps (ix2 (⟨(i 0).val / 128, by have := (i 0).isLt; simp at this; omega⟩ : Fin 512) (⟨(i 0).val % 128, Nat.mod_lt _ (by norm_num)⟩ : Fin 128)))) (i 1) (i 2))

/-- The 128 sub-rows of `op` that row `j` of the tile's list `fi` names. -/
def PAY (op : S67584x2x128.Idx → Elt F .f32) (fi : S16x128.Idx → Elt F .i32) (j : Fin 16) : S128x2x128.Idx → Elt F .f32 := fun x =>
  op (ix3 (padRow (fi (ix2 j (x 0)))) (x 1) (x 2))

theorem payload_eq (op : S67584x2x128.Idx → Elt F .f32) (fi : S16x128.Idx → Elt F .i32) (hfi : ∀ r, (fi r).toNat < 67584) (j : Fin 16) (off : Fin 2 → ℕ)
    (inb : ∀ a, off a + S1x128.size a ≤ S16x128.size a) (h : off = ![j.val, 0]) (hn : S128.numel = 128)
    (hin : ∀ x, ((lrow (iV) off inb).view.read (Elt F) fi x).toNat < 67584) :
    SparseCore.gatherPayload gathers_S67584x2x128_S128x2x128 ((padAll (oV)).view.read (Elt F) op)
        (SparseCore.rows ((lrow (iV) off inb).view.read (Elt F) fi) hn hin) = PAY op fi j := by
  funext x
  unfold SparseCore.gatherPayload PAY
  rw [padAll_read]
  show op _ = op _
  congr 1
  funext a
  apply Fin.ext
  match a with
  | 0 =>
    refine (congrArg Fin.val (Shape.Gathers.idx_axis gathers_S67584x2x128_S128x2x128 _ x)).trans ?_
    refine (rows_val _ hn hin (x 0)).trans ?_
    rw [lrow_read (iV) j off inb h]
    exact (padRow_val (hfi _)).symm
  | 1 => exact Shape.Gathers.idx_of_ne gathers_S67584x2x128_S128x2x128 (SparseCore.rows ((lrow (iV) off inb).view.read (Elt F) fi) hn hin) x 1 (by decide)
  | 2 => exact Shape.Gathers.idx_of_ne gathers_S67584x2x128_S128x2x128 (SparseCore.rows ((lrow (iV) off inb).view.read (Elt F) fi) hn hin) x 2 (by decide)

/-- Issuing the gather of list row `j` into a buffer: the flight brings back the buffer at the rows named. -/
theorem issue (B : Memref sig .scVector .vmem S128x2x128 .f32) (op : S67584x2x128.Idx → Elt F .f32) (fi : S16x128.Idx → Elt F .i32)
    (hfi : ∀ r, (fi r).toNat < 67584) (j : Fin 16) (off : Fin 2 → ℕ) (inb : ∀ a, off a + S1x128.size a ≤ S16x128.size a) (h : off = ![j.val, 0])
    (fd : Buf (Elt F) (B.view.loc (thr d L))) (g : Buf (Elt F) (B.view.loc (thr d L)))
    (hg : B.view.write (Elt F) fd (PAY op fi j) Finset.univ = g) (q qo : PosShare TreeShare) (sem : DmaSem sig)
    {hn : S128.numel = S128x2x128.size gathers_S67584x2x128_S128x2x128.axis'}
    {hp : (thr d L).2.kind = .scVector} {hsrc : (padAll (oV)).view.WordExact} {he : EltTy.f32.bits = 32} {hsp : Space.hbm = .hbm ∨ Space.hbm = .shared} {hr : S67584x2x128.StreamRows 0}
    {α : Type} {k : PUnit → Prog (TpuEff nD τ sig (Elt F) Λ₀ (thr d L).2) α} {Q : α → sProp 𝕄} :
    iprop(((oV).view.loc (thr d L) ↦{q} op) ∗ (B.view.loc (thr d L) ↦{fullShare} fd) ∗ ((iV).view.loc (thr d L) ↦{qo} fi) ∗ semVal (thr d L, SemLoc.dma sem) 0)
      ⊢ iprop((Transfers.Flight countersEmb (thr d L) (.dma sem) (default : HIx 3) B.view.dmaCredit
                iprop((B.view.loc (thr d L) ↦{fullShare} g) ∗ ((oV).view.loc (thr d L) ↦{q} op) ∗ ((iV).view.loc (thr d L) ↦{qo} fi))
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp (padAll (oV)) B gathers_S67584x2x128_S128x2x128 (lrow (iV) off inb) hn sem hsrc he hsp hr >>= k) Q) := by
  have hin : ∀ x, ((lrow (iV) off inb).view.read (Elt F) fi x).toNat < 67584 := fun x => by rw [lrow_read (iV) j off inb h]; exact hfi _
  have := SparseCore.wp_gatherFromWhole (U := UU) (Lvl := ℕ) (Name := ℕ) countersEmb 𝒱₀ (thr d L) none (defs := defs₀ (F := F)) (src := padAll (oV)) (dst := B) (hg := gathers_S67584x2x128_S128x2x128)
    (offs := lrow (iV) off inb) (hn := hn) (sem := sem) (hp := hp) (hsrc := hsrc) (he := he) (hsp := hsp) (hr := hr) (k := k) (Q := Q) (q := q) (qo := qo)
    (fs := op) (fd := fd) (fo := fi) (default : HIx 3) B.view.dmaCredit (SparseCore.sum_rowCredit_eq_dmaCredit B _ (fun _ => rfl)) (by decide) hin
  rw [payload_eq op fi hfi j off inb h hn hin, hg] at this
  exact this

/- BODY -/
/-- The tile's sixteen rows of the list of row numbers. -/
abbrev pS (L : grid3.Coords) : Memref sig .scVector .hbm S16x128 .i32 := (pV).slice (Rect.unit (s := S512x128) (k3_off1 L) S16x128.size (k3_off1_inb L)) (fun _ => rfl)
/-- A chunk of the tile's part of the output. -/
abbrev rS (L : grid3.Coords) (w : BitVec 32) (inb : ∀ a, k3_off2 L w a + S128x2x128.size a ≤ S65536x2x128.size a) : Memref sig .scVector .hbm S128x2x128 .f32 :=
  (rV).slice (Rect.unit (s := S65536x2x128) (k3_off2 L w) S128x2x128.size inb) (fun _ => rfl)

abbrev oLoc (d : Dev nD) : Loc nD τ sig := (SparseCore.T d).loc main_v24
abbrev pLoc (d : Dev nD) : Loc nD τ sig := (SparseCore.T d).loc main_v17
abbrev rLoc (d : Dev nD) : Loc nD τ sig := (SparseCore.T d).loc main_v25

/-- The elements of chunk `j` of the tile's part of the output. -/
abbrev chunk (L : grid3.Coords) (j : Fin 16) : Finset S65536x2x128.Idx := (rS L (BitVec.ofNat 32 (16 * j.val)) (k3_off2_inb L j)).view.set

/-- The tile's number of rows before it in the list. -/
def lrowOf (L : grid3.Coords) (j : Fin 16) : Fin 512 := ⟨32 * (L 1).val + 16 * (L 0).val + j.val, by
  have h0 : (L 0).val < 2 := (L 0).isLt
  have h1 : (L 1).val < 16 := (L 1).isLt
  omega⟩

/-- The tile's list. -/
def FI (L : grid3.Coords) (ps : S512x128.Idx → Elt F .i32) : S16x128.Idx → Elt F .i32 := fun x => ps (ix2 (lrowOf L (x 0)) (x 1))

theorem pS_emb (L : grid3.Coords) (x : S16x128.Idx) : (pS L).view.emb x = ix2 (lrowOf L (x 0)) (x 1) := by
  rw [show (pS L).view.emb x = (Rect.unit (s := S512x128) (k3_off1 L) S16x128.size (k3_off1_inb L)).emb x from rfl]
  funext a; apply Fin.ext; rw [Rect.emb_apply]
  match a with
  | 0 => simp [k3_off1_eq, lrowOf]
  | 1 => simp [k3_off1_eq]

theorem pS_read (L : grid3.Coords) (ps : S512x128.Idx → Elt F .i32) : (pS L).view.read (Elt F) ps = FI L ps := by
  funext x
  rw [View.read_apply]
  show ps ((pS L).view.emb x) = _
  rw [pS_emb]; rfl

theorem FI_lt (L : grid3.Coords) {ps : S512x128.Idx → Elt F .i32} (h : ∀ r, (ps r).toNat < 67584) (r : S16x128.Idx) : (FI L ps r).toNat < 67584 := h _

theorem rS_emb (L : grid3.Coords) (j : Fin 16) (x : S128x2x128.Idx) (a : Fin 3) :
    ((rS L (BitVec.ofNat 32 (16 * j.val)) (k3_off2_inb L j)).view.emb x a).val = ![4096 * (L 1).val + 2048 * (L 0).val + 128 * j.val, 0, 0] a + (x a).val := by
  rw [show (rS L (BitVec.ofNat 32 (16 * j.val)) (k3_off2_inb L j)).view.emb x a = (Rect.unit (s := S65536x2x128) (k3_off2 L (BitVec.ofNat 32 (16 * j.val))) S128x2x128.size (k3_off2_inb L j)).emb x a from rfl]
  rw [Rect.emb_apply]
  show k3_off2 L (BitVec.ofNat 32 (16 * j.val)) a + 1 * (x a).val = _
  rw [k3_off2_eq, one_mul]

theorem gath_emb (L : grid3.Coords) (op : S67584x2x128.Idx → Elt F .f32) (ps : S512x128.Idx → Elt F .i32) (j : Fin 16) (x : S128x2x128.Idx) :
    GATH op ps ((rS L (BitVec.ofNat 32 (16 * j.val)) (k3_off2_inb L j)).view.emb x) = PAY op (FI L ps) j x := by
  have e0 := rS_emb L j x 0
  have e1 := rS_emb L j x 1
  have e2 := rS_emb L j x 2
  have hx : (x 0).val < 128 := (x 0).isLt
  unfold GATH PAY FI
  congr 1
  change _ = 4096 * (L 1).val + 2048 * (L 0).val + 128 * j.val + (x 0).val at e0
  change _ = 0 + (x 1).val at e1
  change _ = 0 + (x 2).val at e2
  rw [zero_add] at e1 e2
  have a1 : (rS L (BitVec.ofNat 32 (16 * j.val)) (k3_off2_inb L j)).view.emb x 1 = x 1 := Fin.ext e1
  have a2 : (rS L (BitVec.ofNat 32 (16 * j.val)) (k3_off2_inb L j)).view.emb x 2 = x 2 := Fin.ext e2
  rw [a1, a2]
  congr 2
  refine congrArg ps (congrArg₂ (fun a b => ix2 a b) (Fin.ext ?_) (Fin.ext ?_))
  · show ((rS L (BitVec.ofNat 32 (16 * j.val)) (k3_off2_inb L j)).view.emb x 0).val / 128 = 32 * (L 1).val + 16 * (L 0).val + j.val
    rw [e0]; omega
  · show ((rS L (BitVec.ofNat 32 (16 * j.val)) (k3_off2_inb L j)).view.emb x 0).val % 128 = (x 0).val
    rw [e0]; omega

/-- A chunk written with what its buffer held is the chunk at the gathered rows. -/
theorem out_done (op : S67584x2x128.Idx → Elt F .f32) (ps : S512x128.Idx → Elt F .i32) (j : Fin 16) (f0 : Buf (Elt F) (rLoc d)) (pay : S128x2x128.Idx → Elt F .f32)
    (hpay : pay = PAY op (FI L ps) j) :
    ((rS L (BitVec.ofNat 32 (16 * j.val)) (k3_off2_inb L j)).view.loc (thr d L) ↦[(rS L (BitVec.ofNat 32 (16 * j.val)) (k3_off2_inb L j)).view.set]{fullShare}
        (rS L (BitVec.ofNat 32 (16 * j.val)) (k3_off2_inb L j)).view.writes (Elt F) f0 [⟨Rect.whole S128x2x128, pay⟩] : sProp 𝕄)
      = rLoc d ↦[chunk L j]{fullShare} GATH op ps := by
  subst hpay
  rw [← View.write_univ_eq_writes_whole, View.writes_nil]
  refine pointsTo_congr fun i hi => ?_
  obtain ⟨x, -, rfl⟩ := Finset.mem_map.mp hi
  rw [View.write_emb_of_mem _ _ (Finset.mem_univ x)]
  exact (gath_emb L op ps j x).symm
abbrev cellA : GSem nD τ sig := (thr d L, .dma cc3_scratch3.sem)
abbrev cellB : GSem nD τ sig := (thr d L, .dma cc3_scratch4.sem)
abbrev cellC : GSem nD τ sig := (thr d L, .dma cc3_scratch5.sem)
abbrev cellE : GSem nD τ sig := (thr d L, .dma cc3_scratch6.sem)
abbrev cellG : GSem nD τ sig := (thr d L, .dma cc3_scoped0.sem)

/-- The tile's semaphores: the five the kernel uses, and the rest. -/
theorem ownSems0_V :
    ∃ R : sProp 𝕄, (ownSems0 (thr d L) : sProp 𝕄)
      = iprop(semVal (cellA d L) 0 ∗ semVal (cellB d L) 0 ∗ semVal (cellC d L) 0 ∗ semVal (cellE d L) 0 ∗ semVal (cellG d L) 0 ∗ R) := by
  unfold SparseCore.Cfg.ownSems0
  apply Exists.intro
  have hA : cellA d L ∈ ownCells (thr d L) := mem_ownCells.mpr ⟨rfl, by show (SemLoc.dma cc3_scratch3.sem : SemLoc sig).isScoped .scVector = true; decide⟩
  have hB : cellB d L ∈ ownCells (thr d L) := mem_ownCells.mpr ⟨rfl, by show (SemLoc.dma cc3_scratch4.sem : SemLoc sig).isScoped .scVector = true; decide⟩
  have hC : cellC d L ∈ ownCells (thr d L) := mem_ownCells.mpr ⟨rfl, by show (SemLoc.dma cc3_scratch5.sem : SemLoc sig).isScoped .scVector = true; decide⟩
  have hE : cellE d L ∈ ownCells (thr d L) := mem_ownCells.mpr ⟨rfl, by show (SemLoc.dma cc3_scratch6.sem : SemLoc sig).isScoped .scVector = true; decide⟩
  have hG : cellG d L ∈ ownCells (thr d L) := mem_ownCells.mpr ⟨rfl, by show (SemLoc.dma cc3_scoped0.sem : SemLoc sig).isScoped .scVector = true; decide⟩
  have ne {a b : DmaSem sig} (h : a ≠ b) : ((thr d L, SemLoc.dma a) : GSem nD τ sig) ≠ (thr d L, SemLoc.dma b) := fun e => h (by injection e with _ e; injection e)
  rw [SparseCore.bigSep_erase' hA,
    SparseCore.bigSep_erase' (Finset.mem_erase.mpr ⟨ne (by decide), hB⟩),
    SparseCore.bigSep_erase' (Finset.mem_erase.mpr ⟨ne (by decide), Finset.mem_erase.mpr ⟨ne (by decide), hC⟩⟩),
    SparseCore.bigSep_erase' (Finset.mem_erase.mpr ⟨ne (by decide), Finset.mem_erase.mpr ⟨ne (by decide), Finset.mem_erase.mpr ⟨ne (by decide), hE⟩⟩⟩),
    SparseCore.bigSep_erase' (Finset.mem_erase.mpr ⟨ne (by decide), Finset.mem_erase.mpr ⟨ne (by decide), Finset.mem_erase.mpr ⟨ne (by decide), Finset.mem_erase.mpr ⟨ne (by decide), hG⟩⟩⟩⟩)]

/-- The tile's buffers: the three the kernel uses, at some contents, and the rest. -/
theorem ownBufs_V :
    ∃ R : sProp 𝕄, (ownBufs (thr d L) : sProp 𝕄)
      = iprop((∃ f, (thr d L).loc cc3_scratch0 ↦{fullShare} f) ∗ (∃ f, (thr d L).loc cc3_scratch1 ↦{fullShare} f) ∗ (∃ f, (thr d L).loc cc3_scratch2 ↦{fullShare} f) ∗ R) := by
  unfold SparseCore.Cfg.ownBufs
  apply Exists.intro
  have ne {a b : Ref sig .scVector} (h : a ≠ b) : (Proc.scVector (cV L) (jV L)).devRef a ≠ (Proc.scVector (cV L) (jV L)).devRef b := fun e => h (Proc.devRef_injective _ e)
  refine (SparseCore.bigSep_erase' (SparseCore.Cfg.mem_ownRefs_of_owner (p := Proc.scVector (cV L) (jV L)) (b := (Proc.scVector (cV L) (jV L)).devRef cc3_scratch0) rfl)).trans ?_
  rw [SparseCore.bigSep_erase' (Finset.mem_erase.mpr ⟨ne (show (cc3_scratch1 : Ref sig .scVector) ≠ cc3_scratch0 by decide), SparseCore.Cfg.mem_ownRefs_of_owner (p := Proc.scVector (cV L) (jV L)) (b := (Proc.scVector (cV L) (jV L)).devRef cc3_scratch1) rfl⟩),
    SparseCore.bigSep_erase' (Finset.mem_erase.mpr ⟨ne (show (cc3_scratch2 : Ref sig .scVector) ≠ cc3_scratch1 by decide),
      Finset.mem_erase.mpr ⟨ne (show (cc3_scratch2 : Ref sig .scVector) ≠ cc3_scratch0 by decide), SparseCore.Cfg.mem_ownRefs_of_owner (p := Proc.scVector (cV L) (jV L)) (b := (Proc.scVector (cV L) (jV L)).devRef cc3_scratch2) rfl⟩⟩)]

/-- The tile's part of the output, chunk by chunk. -/
theorem chunks_eq (f : Buf (Elt F) (rLoc d)) :
    (bigSep Finset.univ fun j : Fin 16 => (rLoc d ↦[chunk L j]{fullShare} f : sProp 𝕄))
      = iprop(((rS L 0#32 (k3_off2_inb L 0)).view.loc (thr d L) ↦[(rS L 0#32 (k3_off2_inb L 0)).view.set]{fullShare} f) ∗ ((rS L 16#32 (k3_off2_inb L 1)).view.loc (thr d L) ↦[(rS L 16#32 (k3_off2_inb L 1)).view.set]{fullShare} f) ∗ ((rS L 32#32 (k3_off2_inb L 2)).view.loc (thr d L) ↦[(rS L 32#32 (k3_off2_inb L 2)).view.set]{fullShare} f) ∗ ((rS L 48#32 (k3_off2_inb L 3)).view.loc (thr d L) ↦[(rS L 48#32 (k3_off2_inb L 3)).view.set]{fullShare} f) ∗ ((rS L 64#32 (k3_off2_inb L 4)).view.loc (thr d L) ↦[(rS L 64#32 (k3_off2_inb L 4)).view.set]{fullShare} f) ∗ ((rS L 80#32 (k3_off2_inb L 5)).view.loc (thr d L) ↦[(rS L 80#32 (k3_off2_inb L 5)).view.set]{fullShare} f) ∗ ((rS L 96#32 (k3_off2_inb L 6)).view.loc (thr d L) ↦[(rS L 96#32 (k3_off2_inb L 6)).view.set]{fullShare} f) ∗ ((rS L 112#32 (k3_off2_inb L 7)).view.loc (thr d L) ↦[(rS L 112#32 (k3_off2_inb L 7)).view.set]{fullShare} f) ∗ ((rS L 128#32 (k3_off2_inb L 8)).view.loc (thr d L) ↦[(rS L 128#32 (k3_off2_inb L 8)).view.set]{fullShare} f) ∗ ((rS L 144#32 (k3_off2_inb L 9)).view.loc (thr d L) ↦[(rS L 144#32 (k3_off2_inb L 9)).view.set]{fullShare} f) ∗ ((rS L 160#32 (k3_off2_inb L 10)).view.loc (thr d L) ↦[(rS L 160#32 (k3_off2_inb L 10)).view.set]{fullShare} f) ∗ ((rS L 176#32 (k3_off2_inb L 11)).view.loc (thr d L) ↦[(rS L 176#32 (k3_off2_inb L 11)).view.set]{fullShare} f) ∗ ((rS L 192#32 (k3_off2_inb L 12)).view.loc (thr d L) ↦[(rS L 192#32 (k3_off2_inb L 12)).view.set]{fullShare} f) ∗ ((rS L 208#32 (k3_off2_inb L 13)).view.loc (thr d L) ↦[(rS L 208#32 (k3_off2_inb L 13)).view.set]{fullShare} f) ∗ ((rS L 224#32 (k3_off2_inb L 14)).view.loc (thr d L) ↦[(rS L 224#32 (k3_off2_inb L 14)).view.set]{fullShare} f) ∗ ((rS L 240#32 (k3_off2_inb L 15)).view.loc (thr d L) ↦[(rS L 240#32 (k3_off2_inb L 15)).view.set]{fullShare} f)) := by
  rw [bigSep_univ_eq_bigSepL [0, 1, 2, 3, 4, 5, 6, 7, 8, 9, 10, 11, 12, 13, 14, 15] (by decide) (by decide)]
  rfl

set_option maxHeartbeats 8000000 in
set_option maxRecDepth 16384 in
/-- A tile's run of the gather kernel, from its shares of the array and of the list, leaves its part of the output at the gathered rows. -/
theorem tile_body (hF : (K (F := F)).Facts) (op : Buf (Elt F) (oLoc d)) (ps : Buf (Elt F) (pLoc d)) (hps : ∀ r : S512x128.Idx, (ps r : BitVec 32).toNat < 67584) (f0 : Buf (Elt F) (rLoc d))
    (q qp : PosShare TreeShare) (O : CellTallies nD τ sig (HIx 3)) (W : Waits sig (HIx 3)) (hO : ∀ g, O g none = 0) :
    iprop(levAts (K (F := F)).L (K (F := F)).lev ∗ emp
        ∗ ((oLoc d ↦{q} op) ∗ (pLoc d ↦{qp} ps) ∗ bigSep Finset.univ fun j : Fin 16 => (rLoc d ↦[chunk L j]{fullShare} f0 : sProp 𝕄))
        ∗ scopedBufs (thr d L) ∗ scopedSems0 (thr d L) ∗ owes (thr d L) O W)
      ⊢ wp frame (wpE (defs₀ (F := F)) 𝒱₀ (thr d L) none) Set.univ
          (cc3__gather_out L oV (Memref.isWhole_whole _) pV (Memref.isWhole_whole _) rV (Memref.isWhole_whole _)
            iV (Memref.isWhole_whole _) aV (Memref.isWhole_whole _) bV (Memref.isWhole_whole _) cc3_scratch3 cc3_scratch4 cc3_scratch5 cc3_scratch6 cc3_scoped0)
          fun _ => iprop((bigSep Finset.univ fun j : Fin 16 => (rLoc d ↦[chunk L j]{fullShare} GATH op ps : sProp 𝕄))
            ∗ scopedBufs (thr d L) ∗ scopedSems0 (thr d L)
            ∗ ∃ W', ⌜∀ p ∈ W', p ∈ W ∨ p.2 = none⌝ ∗ owes (thr d L) O W') := by
  obtain ⟨RS, hRS⟩ := ownSems0_V (F := F) d L
  obtain ⟨RB, hRB⟩ := ownBufs_V (F := F) d L
  simp only [cc3__gather_out_eq_skeleton]
  unfold cc3__gather_out_skel
  simp only [k3_part10_eq_skeleton]; unfold k3_part10_skel
  simp only [k3_part1_eq_skeleton]; unfold k3_part1_skel
  simp only [k3_part2_eq_skeleton]; unfold k3_part2_skel
  simp only [k3_part3_eq_skeleton]; unfold k3_part3_skel
  simp only [k3_part4_eq_skeleton]; unfold k3_part4_skel
  simp only [k3_part5_eq_skeleton]; unfold k3_part5_skel
  simp only [k3_part6_eq_skeleton]; unfold k3_part6_skel
  simp only [k3_part7_eq_skeleton]; unfold k3_part7_skel
  simp only [k3_part8_eq_skeleton]; unfold k3_part8_skel
  simp only [k3_part9_eq_skeleton]; unfold k3_part9_skel
  simp only [bind_assoc, pure_bind]
  rw [(K (F := F)).scopedBufs_V hF d (cV L) (jV L), SparseCore.Cfg.scopedSems0_V (Val := Elt F) d (cV L) (jV L), hRS, hRB, chunks_eq]
  iintro ⟨#Hlv, -, ⟨Ho, Hp, Hr0, Hr1, Hr2, Hr3, Hr4, Hr5, Hr6, Hr7, Hr8, Hr9, Hr10, Hr11, Hr12, Hr13, Hr14, Hr15⟩, ⟨⟨%fi, Hi⟩, ⟨%fa, Ha⟩, ⟨%fb, Hb⟩, Hbufs⟩, ⟨HA, HB, HC, HE, HG, Hsems⟩, HO⟩
  ihave Hmw := (show (levAts (K (F := F)).L (K (F := F)).lev : sProp 𝕄) ⊢ Transfers.MayWaits (thr d L) (default : HIx 3) O from
    (K (F := F)).mayWaits_none (thr := thr d L) hO) $$ Hlv
  ihave ⟨Hp, -⟩ := (pointsTo_split_subset (q := qp) (f := ps) (S := Finset.univ) (Finset.subset_univ (pS L).view.set)).1 $$ Hp
  ihave Hp := (show (pLoc d ↦[(pS L).view.set]{qp} ps : sProp 𝕄) ⊢ (pS L).view.loc (thr d L) ↦[(pS L).view.set]{qp} ps from Entails.of_eq rfl) $$ Hp
  ihave Hi := (show ((thr d L).loc cc3_scratch0 ↦{fullShare} fi : sProp 𝕄) ⊢ (iV).view.loc (thr d L) ↦{fullShare} fi from Entails.of_eq rfl) $$ Hi
  ihave Ha := (show ((thr d L).loc cc3_scratch1 ↦{fullShare} fa : sProp 𝕄) ⊢ (aV).view.loc (thr d L) ↦{fullShare} fa from Entails.of_eq rfl) $$ Ha
  ihave Hb := (show ((thr d L).loc cc3_scratch2 ↦{fullShare} fb : sProp 𝕄) ⊢ (bV).view.loc (thr d L) ↦{fullShare} fb from Entails.of_eq rfl) $$ Hb
  sl_exec
  have hfi := FI_lt L hps
  ihave Hi := (show ((iV).view.loc (thr d L) ↦{fullShare} View.write (Elt F) (iV).view fi (tile_body.sl.dma0 d L ps) Finset.univ : sProp 𝕄) ⊢ (iV).view.loc (thr d L) ↦{fullShare} FI L ps
    from Entails.of_eq (by rw [View.write_whole_univ]; exact congrArg _ (pS_read L ps))) $$ Hi
  ihave ⟨Hi, Hi'⟩ := (pointsTo_share (PosShare.mem_left_op_right fullShare)).1 $$ Hi
  ihave ⟨Ho, Ho'⟩ := (pointsTo_share (PosShare.mem_left_op_right q)).1 $$ Ho
  iapply (issue d L (aV) op (FI L ps) hfi 0 ![0, 0] inb_S16x128_S1x128_0_0 rfl fa (PAY op (FI L ps) 0) (View.write_whole_univ _ _ _) q.left fullShare.left) $$ [Ho Ha Hi HA]
  · iframe Ho Ha Hi HA
  iintro Hfa
  iapply (issue d L (bV) op (FI L ps) hfi 1 ![1, 0] inb_S16x128_S1x128_1_0 rfl fb (PAY op (FI L ps) 1) (View.write_whole_univ _ _ _) q.right fullShare.right) $$ [Ho' Hb Hi' HB]
  · iframe Ho' Hb Hi' HB
  iintro Hfb
  sl_exec
  iapply (Transfers.wp_waitLocalO countersEmb 𝒱₀ (thr d L) none (default : HIx 3) (rfl : (aV).view.dmaCredit = _)) $$ [Hfa HO]
  · isplitl [Hfa]; · iexact Hfa
    isplitl [HO]; · iexact HO
    iapply (Transfers.MayWaits.elim (SemLoc.dma cc3_scratch3.sem)) $$ Hmw
  iintro ⟨⟨Ha, Ho, Hi⟩, HA, HO⟩
  sl_exec
  iapply (issue d L (aV) op (FI L ps) hfi 2 ![2, 0] inb_S16x128_S1x128_2_0 rfl (PAY op (FI L ps) 0) (PAY op (FI L ps) 2) (View.write_whole_univ _ _ _) q.left fullShare.left) $$ [Ho Ha Hi HA]
  · iframe Ho Ha Hi HA
  iintro Hfa
  sl_exec
  iapply (Transfers.wp_waitLocalO countersEmb 𝒱₀ (thr d L) none (default : HIx 3) (rfl : (bV).view.dmaCredit = _)) $$ [Hfb HO]
  · isplitl [Hfb]; · iexact Hfb
    isplitl [HO]; · iexact HO
    iapply (Transfers.MayWaits.elim (SemLoc.dma cc3_scratch4.sem)) $$ Hmw
  iintro ⟨⟨Hb, Ho', Hi'⟩, HB, HO⟩
  sl_exec
  iapply (issue d L (bV) op (FI L ps) hfi 3 ![3, 0] inb_S16x128_S1x128_3_0 rfl (PAY op (FI L ps) 1) (PAY op (FI L ps) 3) (View.write_whole_univ _ _ _) q.right fullShare.right) $$ [Ho' Hb Hi' HB]
  · iframe Ho' Hb Hi' HB
  iintro Hfb
  sl_exec
  iapply (Transfers.wp_waitLocalO countersEmb 𝒱₀ (thr d L) none (default : HIx 3) (rfl : (aV).view.dmaCredit = _)) $$ [Hfa HO]
  · isplitl [Hfa]; · iexact Hfa
    isplitl [HO]; · iexact HO
    iapply (Transfers.MayWaits.elim (SemLoc.dma cc3_scratch3.sem)) $$ Hmw
  iintro ⟨⟨Ha, Ho, Hi⟩, HA, HO⟩
  sl_exec
  iapply (issue d L (aV) op (FI L ps) hfi 4 ![4, 0] inb_S16x128_S1x128_4_0 rfl (PAY op (FI L ps) 2) (PAY op (FI L ps) 4) (View.write_whole_univ _ _ _) q.left fullShare.left) $$ [Ho Ha Hi HA]
  · iframe Ho Ha Hi HA
  iintro Hfa
  sl_exec
  iapply (Transfers.wp_waitLocalO countersEmb 𝒱₀ (thr d L) none (default : HIx 3) (rfl : (bV).view.dmaCredit = _)) $$ [Hfb HO]
  · isplitl [Hfb]; · iexact Hfb
    isplitl [HO]; · iexact HO
    iapply (Transfers.MayWaits.elim (SemLoc.dma cc3_scratch4.sem)) $$ Hmw
  iintro ⟨⟨Hb, Ho', Hi'⟩, HB, HO⟩
  sl_exec
  iapply (issue d L (bV) op (FI L ps) hfi 5 ![5, 0] inb_S16x128_S1x128_5_0 rfl (PAY op (FI L ps) 3) (PAY op (FI L ps) 5) (View.write_whole_univ _ _ _) q.right fullShare.right) $$ [Ho' Hb Hi' HB]
  · iframe Ho' Hb Hi' HB
  iintro Hfb
  sl_exec
  iapply (Transfers.wp_waitLocalO countersEmb 𝒱₀ (thr d L) none (default : HIx 3) (rfl : (aV).view.dmaCredit = _)) $$ [Hfa HO]
  · isplitl [Hfa]; · iexact Hfa
    isplitl [HO]; · iexact HO
    iapply (Transfers.MayWaits.elim (SemLoc.dma cc3_scratch3.sem)) $$ Hmw
  iintro ⟨⟨Ha, Ho, Hi⟩, HA, HO⟩
  sl_exec
  iapply (issue d L (aV) op (FI L ps) hfi 6 ![6, 0] inb_S16x128_S1x128_6_0 rfl (PAY op (FI L ps) 4) (PAY op (FI L ps) 6) (View.write_whole_univ _ _ _) q.left fullShare.left) $$ [Ho Ha Hi HA]
  · iframe Ho Ha Hi HA
  iintro Hfa
  sl_exec
  iapply (Transfers.wp_waitLocalO countersEmb 𝒱₀ (thr d L) none (default : HIx 3) (rfl : (bV).view.dmaCredit = _)) $$ [Hfb HO]
  · isplitl [Hfb]; · iexact Hfb
    isplitl [HO]; · iexact HO
    iapply (Transfers.MayWaits.elim (SemLoc.dma cc3_scratch4.sem)) $$ Hmw
  iintro ⟨⟨Hb, Ho', Hi'⟩, HB, HO⟩
  sl_exec
  iapply (issue d L (bV) op (FI L ps) hfi 7 ![7, 0] inb_S16x128_S1x128_7_0 rfl (PAY op (FI L ps) 5) (PAY op (FI L ps) 7) (View.write_whole_univ _ _ _) q.right fullShare.right) $$ [Ho' Hb Hi' HB]
  · iframe Ho' Hb Hi' HB
  iintro Hfb
  sl_exec
  iapply (Transfers.wp_waitLocalO countersEmb 𝒱₀ (thr d L) none (default : HIx 3) (rfl : (aV).view.dmaCredit = _)) $$ [Hfa HO]
  · isplitl [Hfa]; · iexact Hfa
    isplitl [HO]; · iexact HO
    iapply (Transfers.MayWaits.elim (SemLoc.dma cc3_scratch3.sem)) $$ Hmw
  iintro ⟨⟨Ha, Ho, Hi⟩, HA, HO⟩
  sl_exec
  iapply (issue d L (aV) op (FI L ps) hfi 8 ![8, 0] inb_S16x128_S1x128_8_0 rfl (PAY op (FI L ps) 6) (PAY op (FI L ps) 8) (View.write_whole_univ _ _ _) q.left fullShare.left) $$ [Ho Ha Hi HA]
  · iframe Ho Ha Hi HA
  iintro Hfa
  sl_exec
  iapply (Transfers.wp_waitLocalO countersEmb 𝒱₀ (thr d L) none (default : HIx 3) (rfl : (bV).view.dmaCredit = _)) $$ [Hfb HO]
  · isplitl [Hfb]; · iexact Hfb
    isplitl [HO]; · iexact HO
    iapply (Transfers.MayWaits.elim (SemLoc.dma cc3_scratch4.sem)) $$ Hmw
  iintro ⟨⟨Hb, Ho', Hi'⟩, HB, HO⟩
  sl_exec
  iapply (issue d L (bV) op (FI L ps) hfi 9 ![9, 0] inb_S16x128_S1x128_9_0 rfl (PAY op (FI L ps) 7) (PAY op (FI L ps) 9) (View.write_whole_univ _ _ _) q.right fullShare.right) $$ [Ho' Hb Hi' HB]
  · iframe Ho' Hb Hi' HB
  iintro Hfb
  sl_exec
  iapply (Transfers.wp_waitLocalO countersEmb 𝒱₀ (thr d L) none (default : HIx 3) (rfl : (aV).view.dmaCredit = _)) $$ [Hfa HO]
  · isplitl [Hfa]; · iexact Hfa
    isplitl [HO]; · iexact HO
    iapply (Transfers.MayWaits.elim (SemLoc.dma cc3_scratch3.sem)) $$ Hmw
  iintro ⟨⟨Ha, Ho, Hi⟩, HA, HO⟩
  sl_exec
  iapply (issue d L (aV) op (FI L ps) hfi 10 ![10, 0] inb_S16x128_S1x128_10_0 rfl (PAY op (FI L ps) 8) (PAY op (FI L ps) 10) (View.write_whole_univ _ _ _) q.left fullShare.left) $$ [Ho Ha Hi HA]
  · iframe Ho Ha Hi HA
  iintro Hfa
  sl_exec
  iapply (Transfers.wp_waitLocalO countersEmb 𝒱₀ (thr d L) none (default : HIx 3) (rfl : (bV).view.dmaCredit = _)) $$ [Hfb HO]
  · isplitl [Hfb]; · iexact Hfb
    isplitl [HO]; · iexact HO
    iapply (Transfers.MayWaits.elim (SemLoc.dma cc3_scratch4.sem)) $$ Hmw
  iintro ⟨⟨Hb, Ho', Hi'⟩, HB, HO⟩
  sl_exec
  iapply (issue d L (bV) op (FI L ps) hfi 11 ![11, 0] inb_S16x128_S1x128_11_0 rfl (PAY op (FI L ps) 9) (PAY op (FI L ps) 11) (View.write_whole_univ _ _ _) q.right fullShare.right) $$ [Ho' Hb Hi' HB]
  · iframe Ho' Hb Hi' HB
  iintro Hfb
  sl_exec
  iapply (Transfers.wp_waitLocalO countersEmb 𝒱₀ (thr d L) none (default : HIx 3) (rfl : (aV).view.dmaCredit = _)) $$ [Hfa HO]
  · isplitl [Hfa]; · iexact Hfa
    isplitl [HO]; · iexact HO
    iapply (Transfers.MayWaits.elim (SemLoc.dma cc3_scratch3.sem)) $$ Hmw
  iintro ⟨⟨Ha, Ho, Hi⟩, HA, HO⟩
  sl_exec
  iapply (issue d L (aV) op (FI L ps) hfi 12 ![12, 0] inb_S16x128_S1x128_12_0 rfl (PAY op (FI L ps) 10) (PAY op (FI L ps) 12) (View.write_whole_univ _ _ _) q.left fullShare.left) $$ [Ho Ha Hi HA]
  · iframe Ho Ha Hi HA
  iintro Hfa
  sl_exec
  iapply (Transfers.wp_waitLocalO countersEmb 𝒱₀ (thr d L) none (default : HIx 3) (rfl : (bV).view.dmaCredit = _)) $$ [Hfb HO]
  · isplitl [Hfb]; · iexact Hfb
    isplitl [HO]; · iexact HO
    iapply (Transfers.MayWaits.elim (SemLoc.dma cc3_scratch4.sem)) $$ Hmw
  iintro ⟨⟨Hb, Ho', Hi'⟩, HB, HO⟩
  sl_exec
  iapply (issue d L (bV) op (FI L ps) hfi 13 ![13, 0] inb_S16x128_S1x128_13_0 rfl (PAY op (FI L ps) 11) (PAY op (FI L ps) 13) (View.write_whole_univ _ _ _) q.right fullShare.right) $$ [Ho' Hb Hi' HB]
  · iframe Ho' Hb Hi' HB
  iintro Hfb
  sl_exec
  iapply (Transfers.wp_waitLocalO countersEmb 𝒱₀ (thr d L) none (default : HIx 3) (rfl : (aV).view.dmaCredit = _)) $$ [Hfa HO]
  · isplitl [Hfa]; · iexact Hfa
    isplitl [HO]; · iexact HO
    iapply (Transfers.MayWaits.elim (SemLoc.dma cc3_scratch3.sem)) $$ Hmw
  iintro ⟨⟨Ha, Ho, Hi⟩, HA, HO⟩
  sl_exec
  iapply (issue d L (aV) op (FI L ps) hfi 14 ![14, 0] inb_S16x128_S1x128_14_0 rfl (PAY op (FI L ps) 12) (PAY op (FI L ps) 14) (View.write_whole_univ _ _ _) q.left fullShare.left) $$ [Ho Ha Hi HA]
  · iframe Ho Ha Hi HA
  iintro Hfa
  sl_exec
  iapply (Transfers.wp_waitLocalO countersEmb 𝒱₀ (thr d L) none (default : HIx 3) (rfl : (bV).view.dmaCredit = _)) $$ [Hfb HO]
  · isplitl [Hfb]; · iexact Hfb
    isplitl [HO]; · iexact HO
    iapply (Transfers.MayWaits.elim (SemLoc.dma cc3_scratch4.sem)) $$ Hmw
  iintro ⟨⟨Hb, Ho', Hi'⟩, HB, HO⟩
  sl_exec
  iapply (issue d L (bV) op (FI L ps) hfi 15 ![15, 0] inb_S16x128_S1x128_15_0 rfl (PAY op (FI L ps) 13) (PAY op (FI L ps) 15) (View.write_whole_univ _ _ _) q.right fullShare.right) $$ [Ho' Hb Hi' HB]
  · iframe Ho' Hb Hi' HB
  iintro Hfb
  sl_exec
  iapply (Transfers.wp_waitLocalO countersEmb 𝒱₀ (thr d L) none (default : HIx 3) (rfl : (aV).view.dmaCredit = _)) $$ [Hfa HO]
  · isplitl [Hfa]; · iexact Hfa
    isplitl [HO]; · iexact HO
    iapply (Transfers.MayWaits.elim (SemLoc.dma cc3_scratch3.sem)) $$ Hmw
  iintro ⟨⟨Ha, Ho, Hi⟩, HA, HO⟩
  sl_exec
  iapply (Transfers.wp_waitLocalO countersEmb 𝒱₀ (thr d L) none (default : HIx 3) (rfl : (bV).view.dmaCredit = _)) $$ [Hfb HO]
  · isplitl [Hfb]; · iexact Hfb
    isplitl [HO]; · iexact HO
    iapply (Transfers.MayWaits.elim (SemLoc.dma cc3_scratch4.sem)) $$ Hmw
  iintro ⟨⟨Hb, Ho', Hi'⟩, HB, HO⟩
  sl_exec
  ihave Hr0 := (Entails.of_eq (out_done d L op ps 0 f0 (tile_body.sl.dma0_1 d L op ps) rfl)) $$ Hr0
  ihave Hr1 := (Entails.of_eq (out_done d L op ps 1 f0 (tile_body.sl.dma0_2 d L op ps) rfl)) $$ Hr1
  ihave Hr2 := (Entails.of_eq (out_done d L op ps 2 f0 (tile_body.sl.dma0_3 d L op ps) rfl)) $$ Hr2
  ihave Hr3 := (Entails.of_eq (out_done d L op ps 3 f0 (tile_body.sl.dma0_4 d L op ps) rfl)) $$ Hr3
  ihave Hr4 := (Entails.of_eq (out_done d L op ps 4 f0 (tile_body.sl.dma0_5 d L op ps) rfl)) $$ Hr4
  ihave Hr5 := (Entails.of_eq (out_done d L op ps 5 f0 (tile_body.sl.dma0_6 d L op ps) rfl)) $$ Hr5
  ihave Hr6 := (Entails.of_eq (out_done d L op ps 6 f0 (tile_body.sl.dma0_7 d L op ps) rfl)) $$ Hr6
  ihave Hr7 := (Entails.of_eq (out_done d L op ps 7 f0 (tile_body.sl.dma0_8 d L op ps) rfl)) $$ Hr7
  ihave Hr8 := (Entails.of_eq (out_done d L op ps 8 f0 (tile_body.sl.dma0_9 d L op ps) rfl)) $$ Hr8
  ihave Hr9 := (Entails.of_eq (out_done d L op ps 9 f0 (tile_body.sl.dma0_10 d L op ps) rfl)) $$ Hr9
  ihave Hr10 := (Entails.of_eq (out_done d L op ps 10 f0 (tile_body.sl.dma0_11 d L op ps) rfl)) $$ Hr10
  ihave Hr11 := (Entails.of_eq (out_done d L op ps 11 f0 (tile_body.sl.dma0_12 d L op ps) rfl)) $$ Hr11
  ihave Hr12 := (Entails.of_eq (out_done d L op ps 12 f0 (tile_body.sl.dma0_13 d L op ps) rfl)) $$ Hr12
  ihave Hr13 := (Entails.of_eq (out_done d L op ps 13 f0 (tile_body.sl.dma0_14 d L op ps) rfl)) $$ Hr13
  ihave Hr14 := (Entails.of_eq (out_done d L op ps 14 f0 (tile_body.sl.dma0_15 d L op ps) rfl)) $$ Hr14
  ihave Hr15 := (Entails.of_eq (out_done d L op ps 15 f0 (tile_body.sl.dma0_16 d L op ps) rfl)) $$ Hr15
  sl_step
  isplitl [Hr0 Hr1 Hr2 Hr3 Hr4 Hr5 Hr6 Hr7 Hr8 Hr9 Hr10 Hr11 Hr12 Hr13 Hr14 Hr15]
  · iapply (Entails.of_eq (chunks_eq d L (GATH op ps)).symm)
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    iexact Hr15
  isplitl [Hi Hi' Ha Hb Hbufs]
  · isplitl [Hi Hi']
    · iexists (FI L ps)
      iapply ((pointsTo_share (PosShare.mem_left_op_right fullShare)).2)
      isplitl [Hi]; · iexact Hi
      iexact Hi'
    isplitl [Ha]; · iexists _; iexact Ha
    isplitl [Hb]; · iexists _; iexact Hb
    iexact Hbufs
  isplitl [HA HB HC HE HG Hsems]
  · isplitl [HA]; · iexact HA
    isplitl [HB]; · iexact HB
    isplitl [HC]; · iexact HC
    isplitl [HE]; · iexact HE
    isplitl [HG]; · iexact HG
    iexact Hsems
  iexists _; isplitr
  swap; · iexact HO
  ipureintro; intro p hp
  repeat' rcases Finset.mem_insert.mp hp with hp | hp
  all_goals first | exact .inl hp | exact .inr (hp ▸ rfl)

end Ga

end Cert.Proof.Route

end
-- ==== Proof.Region.lean ====
/-
  The TensorCore's part: one block of 256 rows times the weights its number selects, plus their bias.
-/
module

public import proofs.«01_k».proof.Proof.Setup
public import proofs.«01_k».proof.Proof.Gen.KernelIdeal.Launch
public import Idealize.ShloMosaic.Lib.Pipeline.RegionsLoop
public import Idealize.ShloMosaic.Lib.Pipeline.FrameBody
public import Idealize.ShloMosaic.Lib.Pipeline.ReadBack
public import Idealize.ShloMosaic.Lib.Pipeline.Value
public import Idealize.ShloMosaic.Lib.ValueIdx
public import Idealize.ShloMosaic.Lib.VecWindow
public import Idealize.ShloMosaic.Lib.Affine

@[expose] public section

noncomputable section

namespace Cert.Proof.Route.Mm

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix3)
open Idealize.ShloMosaic.Pipeline (Dat Cfg Window BodyObligation cellOf)

variable {F : FTy → Type} [FloatOps F]

local notation "𝕄" => MT nD τ sig (HIx 3) (Elt F) ℕ UU ℕ

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The kernel's function at a grid point, from its four staging buffers: the output's is overwritten. -/
theorem body_run (c : Dev nD) (i : grid2.Coords) (M1 : Memref sig .tc .smem S16 .i32) (h1 : M1.IsWhole)
    (M2 : Memref sig .tc .vmem S256x2048 .f32) (h2 : M2.IsWhole) (M3 : Memref sig .tc .vmem S1x2048x2048 .bf16) (h3 : M3.IsWhole)
    (M4 : Memref sig .tc .vmem S1x1x2048 .f32) (h4 : M4.IsWhole) (M5 : Memref sig .tc .vmem S256x2048 .f32) (h5 : M5.IsWhole)
    (x2 x3 x4 x5) (E : Set ℕ) (Q : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5
        ∗ (iprop(owns (c : Thread nD τ) M2 fullShare x2 ∗ owns (c : Thread nD τ) M3 fullShare x3 ∗ owns (c : Thread nD τ) M4 fullShare x4
          ∗ owns (c : Thread nD τ) M5 fullShare (k2_pay1 (F := F) x2 x3 x4)) -∗ Q ⟨⟩))
      ⊢ wp frame (wpE (defs₀ (F := F)) 𝒱₀ (c : Thread nD τ) none) E (cc2__mm_body i M1 h1 M2 h2 M3 h3 M4 h4 M5 h5) Q := by
  simp only [cc2__mm_body_eq_skeleton]
  unfold cc2__mm_body_skel
  simp only [owns, h2.set_eq_univ, h3.set_eq_univ, h4.set_eq_univ, h5.set_eq_univ]
  iintro ⟨⟨%f2, %e2, H2⟩, ⟨%f3, %e3, H3⟩, ⟨%f4, %e4, H4⟩, ⟨%f5, %e5, H5⟩, Hk⟩
  sl_exec
  sl_step
  iapply Hk
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists _; isplitr; swap; · iexact H5
  ipureintro
  subst e2 e3 e4
  refine (View.read_writes_full M5.view f5 _ _ _).trans ?_
  rw [show ∀ (h : ∀ a, (![0, 0] : Fin 2 → ℕ) a + S256x2048.size a ≤ S256x2048.size a), M2.view.readAt (Elt F) (Rect.unit (s := S256x2048) ![0, 0] S256x2048.size h).toLoadRect f2 = M2.view.read (Elt F) f2
      from fun h => View.readAt_full M2.view f2 h,
    show ∀ (h : ∀ a, (![0, 0, 0] : Fin 3 → ℕ) a + S1x2048x2048.size a ≤ S1x2048x2048.size a), M3.view.readAt (Elt F) (Rect.unit (s := S1x2048x2048) ![0, 0, 0] S1x2048x2048.size h).toLoadRect f3 = M3.view.read (Elt F) f3
      from fun h => View.readAt_full M3.view f3 h,
    show ∀ (h : ∀ a, (![0, 0, 0] : Fin 3 → ℕ) a + S1x1x2048.size a ≤ S1x1x2048.size a), M4.view.readAt (Elt F) (Rect.unit (s := S1x1x2048) ![0, 0, 0] S1x1x2048.size h).toLoadRect f4 = M4.view.read (Elt F) f4
      from fun h => View.readAt_full M4.view f4 h]

/-! ## The table -/

/-- Which of the two weight matrices block `i` takes, by the table. -/
def side (pf : pre2.Contents (Elt F)) (i : grid2.Coords) : BitVec 32 :=
  Scalar.select (Scalar.cmpi .sge (BitVec.ofNat 32 (i 0).val) (pf.at 0 (Rect.unit (s := S16) ![0] S1.size inb_S16_S1_0) numel1_S1)) 1#32 0#32

theorem side_le (pf : pre2.Contents (Elt F)) (i : grid2.Coords) : (side pf i).toNat ≤ 1 := by
  unfold side Scalar.select
  split <;> decide

theorem tr1 (pf : pre2.Contents (Elt F)) (i : grid2.Coords) : cc2_transform_1 inb_S16_S1_0 numel1_S1 pf i = ![(side pf i).toNat, 0, 0] := rfl
theorem tr2 (pf : pre2.Contents (Elt F)) (i : grid2.Coords) : cc2_transform_2 inb_S16_S1_0 numel1_S1 pf i = ![(side pf i).toNat, 0, 0] := rfl

/-- Whatever the table holds, the blocks it selects lie in the two weight matrices. -/
theorem ok_all (pf : pre2.Contents (Elt F)) : ok2 pf := by
  unfold ok2
  refine ⟨fun i => ⟨fun a => ?_, .inr (Affine.block_words_rows (by decide) (by decide))⟩, fun i => ⟨fun a => ?_, .inl rfl⟩⟩
  · have h := side_le pf i
    rw [tr1]
    fin_cases a
    · show ((side pf i).toNat + 1) * 1 ≤ 2; omega
    · show (0 + 1) * 2048 ≤ 2048; omega
    · show (0 + 1) * 2048 ≤ 2048; omega
  · have h := side_le pf i
    rw [tr2]
    fin_cases a
    · show ((side pf i).toNat + 1) * 1 ≤ 2; omega
    · show (0 + 1) * 1 ≤ 1; omega
    · show (0 + 1) * 2048 ≤ 2048; omega

/-- The table's contents from the sixteen words the host wrote. -/
def tab (nb : S16.Idx → BitVec 32) : pre2.Contents (Elt F) := fun | ⟨0, _⟩ => nb

/-- The region's table, admissible whatever it holds. -/
def adm (nb : S16.Idx → BitVec 32) : (p : Fin 1) → (pcfgs (F := F) p).Adm := fun _ => ⟨tab nb, ok_all _⟩

/-- The pipeline at a table. -/
abbrev CF (nb : S16.Idx → BitVec 32) : Cfg sig Λ₀ := Pipeline.pin (pcfgs (F := F)) (adm nb) 0

section Data
variable (nb : S16.Idx → BitVec 32)
  (xp : S8448x2048.Idx → F .f32) (wts : S2x2048x2048.Idx → F .bf16) (bs : S2x1x2048.Idx → F .f32) (o0 : S8448x2048.Idx → F .f32)

/-- The blocks of the padded rows, the weights and the biases at a point. -/
def xblk (t : Fin (CF (F := F) nb).N) : S256x2048.Idx → F .f32 :=
  (((CF (F := F) nb).win 0).blk t).view.read (Elt F) xp
def wblk (t : Fin (CF (F := F) nb).N) : S1x2048x2048.Idx → F .bf16 :=
  (((CF (F := F) nb).win 1).blk t).view.read (Elt F) wts
def bblk (t : Fin (CF (F := F) nb).N) : S1x1x2048.Idx → F .f32 :=
  (((CF (F := F) nb).win 2).blk t).view.read (Elt F) bs

/-- The table held whole, the region's invariant. -/
def tabHeld (c : Dev nD) : sProp 𝕄 := Pipeline.prefHeld pre2 c (fun _ => fullShare) (tab nb : pre2.Contents (Elt F))

/-- The region's proof data: the three inputs as they stand, the output whatever it holds; each block in place after the
    body, the output block the body's payload of the three; the debts of the core and its recorded waits the same
    throughout. -/
def dat (c : Dev nD) : Dat τ (Elt F) (HIx 3) ℕ UU ℕ (CF (F := F) nb) c where
  A w := match w with
    | ⟨0, _⟩ => xp
    | ⟨1, _⟩ => wts
    | ⟨2, _⟩ => bs
    | ⟨3, _⟩ => o0
  after w t := match w with
    | ⟨0, _⟩ => xblk nb xp t
    | ⟨1, _⟩ => wblk nb wts t
    | ⟨2, _⟩ => bblk nb bs t
    | ⟨3, _⟩ => k2_pay1 (xblk nb xp t) (wblk nb wts t) (bblk nb bs t)
  Φ _ := tabHeld nb c
  q _ := fullShare
  owed _ := (K (F := F)).Otc c 2
  recorded _ := {p | (K (F := F)).lev ((c : Thread nD τ), p.1) p.2 ≤ 8 * 2}

theorem before_0 (c : Dev nD) (t) (d) : (dat nb xp wts bs o0 c).before 0 t d = xblk nb xp t :=
  (Dat.before_in_eq_fetched _ 0 rfl (fun _ => rfl) (fun _ _ _ => rfl) (fun _ => rfl) t d).trans rfl
theorem before_1 (c : Dev nD) (t) (d) : (dat nb xp wts bs o0 c).before 1 t d = wblk nb wts t :=
  (Dat.before_in_eq_fetched _ 1 rfl (fun _ => rfl) (fun _ _ _ => rfl) (fun _ => rfl) t d).trans rfl
theorem before_2 (c : Dev nD) (t) (d) : (dat nb xp wts bs o0 c).before 2 t d = bblk nb bs t :=
  (Dat.before_in_eq_fetched _ 2 rfl (fun _ => rfl) (fun _ _ _ => rfl) (fun _ => rfl) t d).trans rfl

/-- The region's body at every point: the four staging buffers taken, the kernel run, the output's left at the payload. -/
theorem body_obligation (c : Dev nD) : BodyObligation (dat nb xp wts bs o0 c) (defs₀ (F := F)) 𝒱₀ (none : HIx 3) Set.univ := fun t => by
  rw [bigSep_W2, bigSep_W2]
  rw [show (dat nb xp wts bs o0 c).Φ t.castSucc = tabHeld nb c from rfl, show (dat nb xp wts bs o0 c).Φ t.succ = tabHeld nb c from rfl,
    show (dat nb xp wts bs o0 c).owesAt none t.succ = (dat nb xp wts bs o0 c).owesAt none t.castSucc from rfl]
  iintro ⟨HΦ, Howes, ⟨%d0, H0⟩, ⟨%d1, H1⟩, ⟨%d2, H2⟩, ⟨%d3, H3⟩⟩
  iapply (body_run c (grid2.coords t) (Memref.whole main_v22) (Memref.isWhole_whole _) _ (hstage2_0 ((CF (F := F) nb).slots t 0)) _ (hstage2_1 ((CF (F := F) nb).slots t 1)) _ (hstage2_2 ((CF (F := F) nb).slots t 2)) _ (hstage2_3 ((CF (F := F) nb).slots t 3)) (xblk nb xp t) (wblk nb wts t) (bblk nb bs t) _ Set.univ _)
  isplitl [H0]; · rw [← before_0 nb xp wts bs o0 c t d0]; iexact H0
  isplitl [H1]; · rw [← before_1 nb xp wts bs o0 c t d1]; iexact H1
  isplitl [H2]; · rw [← before_2 nb xp wts bs o0 c t d2]; iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## The value -/

/-- The blocks by number: rows `256 b ..`, and one of the two weight matrices and biases. -/
def xb (b : Fin 33) : S256x2048.Idx → F .f32 := fun y =>
  xp (ValueIdx.ix2 (⟨b.val * 256 + (y 0).val, by have := b.isLt; have := (y 0).isLt; simp at this; omega⟩ : Fin 8448) (y 1))
def wb (s : Fin 2) : S1x2048x2048.Idx → F .bf16 := fun y => wts (ix3 s (y 1) (y 2))
def bb (s : Fin 2) : S1x1x2048.Idx → F .f32 := fun y => bs (ix3 s (y 1) (y 2))

/-- The block a row lies in, as a grid point. -/
def ptOf (r : Fin 8448) : Fin grid2.N := ⟨r.val / 256, by rw [N_2]; have := r.isLt; omega⟩

/-- Which weights a block takes, by the table. -/
def sideOf (t : Fin grid2.N) : Fin 2 := ⟨(side (tab nb : pre2.Contents (Elt F)) (grid2.coords t)).toNat, by have := side_le (tab nb : pre2.Contents (Elt F)) (grid2.coords t); omega⟩

/-- What the region leaves in its output: every row its block's row of the product. -/
def OUTP : S8448x2048.Idx → F .f32 := fun x =>
  k2_pay1 (xb xp (ptOf (x 0))) (wb wts (sideOf (F := F) nb (ptOf (x 0)))) (bb bs (sideOf (F := F) nb (ptOf (x 0))))
    (ValueIdx.ix2 (⟨(x 0).val % 256, Nat.mod_lt _ (by norm_num)⟩ : Fin 256) (x 1))

theorem coord_0 (t : Fin grid2.N) : (grid2.coords t 0).val = t.val := by
  have h : (grid2.coords t 0).val = t.val / 1 % 33 := Pipeline.Grid.coords_val t 0 rfl rfl
  have ht : t.val < 33 := lt_of_lt_of_eq t.isLt N_2
  rw [h]; omega

theorem word_0 (t : Fin grid2.N) : (BitVec.ofNat 32 (grid2.coords t 0).val).toNat = t.val := by
  have ht : t.val < 33 := lt_of_lt_of_eq t.isLt N_2
  rw [coord_0, BitVec.toNat_ofNat]
  exact Nat.mod_eq_of_lt (by omega)

theorem xblk_eq (t : Fin (CF (F := F) nb).N) : xblk nb xp t = xb xp ⟨t.val, N_2 ▸ t.isLt⟩ := by
  funext y
  unfold xblk xb
  refine Eq.trans (b := xp ((((CF (F := F) nb).win 0).blk t).view.emb y)) rfl ?_
  refine congrArg xp (funext fun a => Fin.ext ?_)
  refine (Window.rect_emb_val ((CF (F := F) nb).win 0) t y a).trans ?_
  fin_cases a
  · exact congrArg (fun n => n * 256 + (y 0).val) (word_0 t)
  · show 0 * 2048 + (y 1).val = (y 1).val; omega

theorem wblk_eq (t : Fin (CF (F := F) nb).N) : wblk nb wts t = wb wts (sideOf (F := F) nb t) := by
  funext y
  unfold wblk wb
  refine Eq.trans (b := wts ((((CF (F := F) nb).win 1).blk t).view.emb y)) rfl ?_
  refine congrArg wts (funext fun a => Fin.ext ?_)
  refine (Window.rect_emb_val ((CF (F := F) nb).win 1) t y a).trans ?_
  have h0 : (y 0).val = 0 := by have := (y 0).isLt; simp at this; omega
  fin_cases a
  · show (side (tab nb : pre2.Contents (Elt F)) (grid2.coords t)).toNat * 1 + (y 0).val = (side (tab nb : pre2.Contents (Elt F)) (grid2.coords t)).toNat; omega
  · show 0 * 2048 + (y 1).val = (y 1).val; omega
  · show 0 * 2048 + (y 2).val = (y 2).val; omega

theorem bblk_eq (t : Fin (CF (F := F) nb).N) : bblk nb bs t = bb bs (sideOf (F := F) nb t) := by
  funext y
  unfold bblk bb
  refine Eq.trans (b := bs ((((CF (F := F) nb).win 2).blk t).view.emb y)) rfl ?_
  refine congrArg bs (funext fun a => Fin.ext ?_)
  refine (Window.rect_emb_val ((CF (F := F) nb).win 2) t y a).trans ?_
  have h0 : (y 0).val = 0 := by have := (y 0).isLt; simp at this; omega
  fin_cases a
  · show (side (tab nb : pre2.Contents (Elt F)) (grid2.coords t)).toNat * 1 + (y 0).val = (side (tab nb : pre2.Contents (Elt F)) (grid2.coords t)).toNat; omega
  · show 0 * 1 + (y 1).val = (y 1).val; omega
  · show 0 * 2048 + (y 2).val = (y 2).val; omega

theorem flush_all : ∀ t : Fin grid2.N, Window.flushOf grid2 true cc2_transform_3 t = true := by
  intro t
  unfold Window.flushOf
  rw [Bool.true_and, Bool.or_eq_true, decide_eq_true_eq, decide_eq_true_eq]
  by_cases h : t.val + 1 = grid2.N
  · exact .inl h
  · have ht := t.isLt
    refine .inr ⟨by omega, fun he => ?_⟩
    have h0 := congrFun he (0 : Fin 2)
    have h1 : (BitVec.ofNat 32 (grid2.coords ⟨t.val + 1, by omega⟩ 0).val).toNat = (BitVec.ofNat 32 (grid2.coords t 0).val).toNat := h0
    rw [word_0, word_0] at h1
    simp at h1

theorem out_emb (t : Fin (CF (F := F) nb).N) (y : S256x2048.Idx) :
    (((CF (F := F) nb).win 3).blk t).view.emb y = ValueIdx.ix2 (⟨t.val * 256 + (y 0).val, by have := t.isLt; have h := N_2; have := (y 0).isLt; simp at this; have : t.val < grid2.N := t.isLt; omega⟩ : Fin 8448) (y 1) := by
  refine funext fun a => Fin.ext ?_
  refine (Window.rect_emb_val ((CF (F := F) nb).win 3) t y a).trans ?_
  fin_cases a
  · exact congrArg (fun n => n * 256 + (y 0).val) (word_0 t)
  · show 0 * 2048 + (y 1).val = (y 1).val; omega

/-- The output array at the region's end. -/
theorem out_eq (c : Dev nD) : (dat nb xp wts bs o0 c).arrAt 3 (CF (F := F) nb).N = OUTP nb xp wts bs := by
  refine Dat.arrAt_eq_of_cover (dat nb xp wts bs o0 c) 3 (OUTP nb xp wts bs) (fun t _ => ?_) (fun (i : S8448x2048.Idx) => ?_)
  · refine Eq.trans (b := k2_pay1 (xblk nb xp t) (wblk nb wts t) (bblk nb bs t)) rfl ?_
    funext y
    refine Eq.trans ?_ (show OUTP nb xp wts bs ((((CF (F := F) nb).win 3).blk t).view.emb y) = _ from rfl)
    rw [out_emb, xblk_eq, wblk_eq, bblk_eq]
    have hy : (y 0).val < 256 := (y 0).isLt
    have hp : ptOf (⟨t.val * 256 + (y 0).val, by have h := N_2; have : t.val < grid2.N := t.isLt; omega⟩ : Fin 8448) = t := by
      refine Fin.ext ?_
      show (t.val * 256 + (y 0).val) / 256 = t.val
      omega
    unfold OUTP
    show _ = k2_pay1 (xb xp (ptOf _)) (wb wts (sideOf (F := F) nb (ptOf _))) (bb bs (sideOf (F := F) nb (ptOf _))) _
    rw [hp]
    refine congrArg (k2_pay1 (xb xp _) (wb wts _) (bb bs _)) ?_
    refine funext fun a => Fin.ext ?_
    fin_cases a
    · show (y 0).val = (t.val * 256 + (y 0).val) % 256
      omega
    · rfl
  · refine ⟨ptOf (i 0), flush_all _, ?_⟩
    have h : (((CF (F := F) nb).win 3).blk (ptOf (i 0))).view.emb (ValueIdx.ix2 (⟨(i 0).val % 256, Nat.mod_lt _ (by norm_num)⟩ : Fin 256) (i 1)) = i := by
      rw [out_emb]
      refine funext fun a => Fin.ext ?_
      fin_cases a
      · show (i 0).val / 256 * 256 + (i 0).val % 256 = (i 0).val
        omega
      · rfl
    have hm := View.emb_mem_set (((CF (F := F) nb).win 3).blk (ptOf (i 0))).view (ValueIdx.ix2 (⟨(i 0).val % 256, Nat.mod_lt _ (by norm_num)⟩ : Fin 256) (i 1))
    rw [h] at hm
    exact hm

/-! ## The region over the thread's state -/

/-- What the TensorCore owes and has recorded between the second and the third SparseCore call. -/
def owing (c : Dev nD) : sProp 𝕄 :=
  iprop(∃ W, ⌜(K (F := F)).WBelow (SparseCore.T c) W (8 * 2)⌝ ∗ owes (SparseCore.T c) ((K (F := F)).Otc c 2) W)

/-- The region's buffers: its three inputs, its table, and its output at `o`. -/
def bufs (c : Dev nD) (o : S8448x2048.Idx → F .f32) : sProp 𝕄 :=
  iprop(((SparseCore.T c).loc main_v20 ↦{fullShare} xp) ∗ ((SparseCore.T c).loc main_v3 ↦{fullShare} wts) ∗ ((SparseCore.T c).loc main_v7 ↦{fullShare} bs)
    ∗ ((SparseCore.T c).loc main_v22 ↦{fullShare} nb) ∗ ((SparseCore.T c).loc main_v23 ↦{fullShare} o))

theorem arrays_bufs (c : Dev nD) (A : (w : Fin 4) → Buf (Elt F) (((CF (F := F) nb).win w).arr.view.loc (c : Thread nD τ))) :
    (dat nb xp wts bs o0 c).arrays A
      = iprop(((SparseCore.T c).loc main_v20 ↦{fullShare} (A 0 : S8448x2048.Idx → F .f32)) ∗ ((SparseCore.T c).loc main_v3 ↦{fullShare} (A 1 : S2x2048x2048.Idx → F .bf16))
          ∗ ((SparseCore.T c).loc main_v7 ↦{fullShare} (A 2 : S2x1x2048.Idx → F .f32)) ∗ ((SparseCore.T c).loc main_v23 ↦{fullShare} (A 3 : S8448x2048.Idx → F .f32))) := by
  refine (Pipeline.arrays_eq (fun p => Pipeline.pin (pcfgs (F := F)) (adm nb) p) (fun _ c => dat nb xp wts bs o0 c) 0 c (launch2 (F := F)).arr_whole
    ((dat nb xp wts bs o0 c).share_full fun _ => rfl) A).trans ?_
  exact bigSep_W2 _

theorem prefHeld_tab (c : Dev nD) : tabHeld (F := F) nb c = iprop((SparseCore.T c).loc main_v22 ↦{fullShare} nb) := by
  unfold tabHeld Pipeline.prefHeld
  rw [show (Finset.univ : Finset (Fin 1)) = {0} from rfl]
  exact bigSep_singleton

theorem Otc_none (c : Dev nD) (g : GSem nD τ sig) : (K (F := F)).Otc (N := 3) c 2 g none = 0 := by
  by_contra h
  have h' := SparseCore.Cfg.lev_of_Otc_pos (K := K (F := F)) (Nat.pos_of_ne_zero h)
  rw [SparseCore.Cfg.lev_none] at h'
  omega

set_option backward.isDefEq.respectTransparency.types false in
/-- The region, from its inputs, its table and its output at anything to its output at `OUTP`; the core's debts kept. -/
def seg : Pipeline.RegionSeg (pcfgs (F := F)) (adm nb) (fun _ c => dat nb xp wts bs o0 c) (none : HIx 3) defs₀ 𝒱₀ (K (F := F)).L (K (F := F)).lev 0 where
  win := (launch2 (F := F)).win.to₀
  block_pos := (launch2 (F := F)).block_pos
  stage_whole := (launch2 (F := F)).stage_whole
  K := PEmpty
  osem k := k.elim
  ho := Pipeline.OwnSemFacts.none _
  hbody c := (body_obligation nb xp wts bs o0 c).loose
  hwaits c := Pipeline.cellsWaits_intro _ _ _ 0 c fun w s t => (K (F := F)).mayWait_none _ (Otc_none c)
  pre c := iprop(bufs nb xp wts bs c o0 ∗ owing c)
  post c := iprop(bufs nb xp wts bs c (OUTP nb xp wts bs) ∗ owing c)
  X _ := BI.emp
  Y c := tabHeld nb c
  Z _ := BI.emp
  hentry c := by
    rw [Pipeline.ownSems0_none, arrays_bufs]
    unfold bufs owing
    iintro ⟨⟨⟨H20, H3, H7, H22, H23⟩, %W, %hW, HO⟩, -, -⟩
    imodintro
    isplitl [H20 H3 H7 H23]
    · isplitl [H20]; · iexact H20
      isplitl [H3]; · iexact H3
      isplitl [H7]; · iexact H7
      iexact H23
    isplitl [H22]
    · rw [show (Pipeline.prefHeld (pcfgs (F := F) 0).pre c (fun _ => fullShare) (adm (F := F) nb 0).1 : sProp 𝕄) = tabHeld nb c from rfl, prefHeld_tab]
      iexact H22
    isplitl [HO]
    · unfold Pipeline.Dat.owesAt Pipeline.owesWithin
      iexists W
      isplitr; · ipureintro; exact fun p hp => Or.inl (hW p hp)
      iexact HO
    isplitr <;> iempintro
  hin c := by
    rw [show (dat nb xp wts bs o0 c).Φ 0 = tabHeld nb c from rfl,
      show (Pipeline.prefHeld (pcfgs (F := F) 0).pre c (fun _ => fullShare) (adm (F := F) nb 0).1 : sProp 𝕄) = tabHeld nb c from rfl]
    iintro ⟨-, H, -⟩; iexact H
  hout c := by
    rw [Pipeline.ownSems0_none, show (dat nb xp wts bs o0 c).Φ (Fin.last _) = tabHeld nb c from rfl, show (Pipeline.scopedRest (Pipeline.pin (pcfgs (F := F)) (adm nb) 0).spec c : sProp 𝕄) = BI.emp from scopedRest2_eq c]
    iintro H
    isplitl [H]; · iexact H
    isplitr <;> iempintro
  hexit c := by
    rw [arrays_bufs, prefHeld_tab]
    unfold bufs owing
    rw [(dat nb xp wts bs o0 c).arrAt_in 0 rfl, (dat nb xp wts bs o0 c).arrAt_in 1 rfl, (dat nb xp wts bs o0 c).arrAt_in 2 rfl, out_eq]
    iintro ⟨⟨H20, H3, H7, H23⟩, HO, H22, -⟩
    imodintro
    isplitl [H20 H3 H7 H22 H23]
    · isplitl [H20]; · iexact H20
      isplitl [H3]; · iexact H3
      isplitl [H7]; · iexact H7
      isplitl [H22]; · iexact H22
      iexact H23
    unfold Pipeline.Dat.owesAt Pipeline.owesWithin
    icases HO with ⟨%W, %hW, HO⟩
    iexists W
    isplitr
    · ipureintro
      intro p hp
      rcases hW hp with h | ⟨w, s, h⟩
      · exact h
      · have h2 : p.2 = none := by rw [h]
        rw [h2, SparseCore.Cfg.lev_none]
        omega
    iexact HO

end Data

/-- The pipeline's place in the ghost state. -/
def EP : Emb UP (MT nD τ sig (HIx 3) (Elt F) ℕ UU ℕ) := (Emb.inl : Emb UP (UP × Counters)).trans embR
instance EP_landsIn : (EP : Emb UP 𝕄).LandsIn (upEmb : UEmb _ 𝕄) := by unfold EP; infer_instance

theorem region_lift : (Prog.lift (.customCall (SparseCore.inner (Pipeline.entry 0)) ()) : Prog (TpuEff nD τ sig (Elt F) (SparseCore.Sig (ΛP (F := F)) 3) .tc) PUnit)
    = SparseCore.liftProg (Prog.lift (.customCall (Pipeline.entry 0) ()) : Prog (TpuEff nD τ sig (Elt F) (ΛP (F := F)) .tc) PUnit) := rfl

/-- The TensorCore's region as the main program meets it. -/
theorem region_wp (nb : S16.Idx → BitVec 32) (xp : S8448x2048.Idx → F .f32) (wts : S2x2048x2048.Idx → F .bf16) (bs : S2x1x2048.Idx → F .f32) (o0 : S8448x2048.Idx → F .f32)
    (c : Dev nD) (Q : PUnit → sProp 𝕄) :
    iprop((iprop(boundary (SparseCore.T c) ∗ bufs nb xp wts bs c (OUTP nb xp wts bs) ∗ owing c) -∗ Q ⟨⟩)
        ∗ boundary (SparseCore.T c) ∗ (bufs nb xp wts bs c o0 ∗ owing c) ∗ levAts (K (F := F)).L (K (F := F)).lev
        ∗ Pipeline.cellsGhost (Pipeline.pin (pcfgs (F := F)) (adm nb)) EP 0 c ∗ Pipeline.toksInit (Pipeline.pin (pcfgs (F := F)) (adm nb)) EP 0 c)
      ⊢ wp frame (wpE ((K (F := F)).defs D) 𝒱 (SparseCore.T c) none) Set.univ (Prog.lift (.customCall (SparseCore.inner (Pipeline.entry 0)) ())) Q := by
  rw [region_lift]
  refine BI.Entails.trans ?_ ((K (F := F)).wp_liftProg D 𝒱 (SparseCore.T c) Set.univ none (Prog.lift (.customCall (Pipeline.entry 0) ())) Q)
  refine BI.Entails.trans ?_ (Pipeline.RegionSeg.wp (pcfgs (F := F)) (adm nb) (fun _ c => dat nb xp wts bs o0 c) none (cellOf_inj (adm nb)) EP defs₀ 𝒱₀ (K (F := F)).L (K (F := F)).lev
    (seg nb xp wts bs o0) c none (fun _ h => nomatch h) _ Q)
  rw [show (seg nb xp wts bs o0).pre c = iprop(bufs nb xp wts bs c o0 ∗ owing c) from rfl, show (seg nb xp wts bs o0).post c = iprop(bufs nb xp wts bs c (OUTP nb xp wts bs) ∗ owing c) from rfl]
  show (_ : sProp 𝕄) ⊢ _
  iintro ⟨Hk, Hb, Hp, Hl, Hg, Ht⟩
  isplitl [Hk]
  · iintro H
    rw [wp_ret]
    imodintro
    iapply Hk
    iexact H
  isplitl [Hb]; · iexact Hb
  isplitl [Hp]; · iexact Hp
  isplitl [Hl]; · iexact Hl
  isplitl [Hg]; · iexact Hg
  iexact Ht

end Cert.Proof.Route.Mm

end
-- ==== Proof.Vals.lean ====
/-
  What the TensorCore's buffers hold between the program's calls: the host operations in their five runs, and the valuation
  after each run and each call, as a function of the launch memory.
-/
module

public import proofs.«01_k».proof.Proof.Route
public import proofs.«01_k».proof.Proof.Scatter
public import proofs.«01_k».proof.Proof.Gather
public import proofs.«01_k».proof.Proof.Region

@[expose] public section

noncomputable section

namespace Cert.Proof.Route

open Cert.KernelIdeal Cert.KernelIdeal.Gen

open Idealize.ShloMosaic
open Idealize.ShloMosaic.SparseCore (S V T)
open Idealize.SL Idealize.SL.Sem
open Idealize.ShloMosaic.StableHlo (seq after after_cons after_nil)

variable {F : FTy → Type} [FloatOps F]

/-- The host operations of run 0: the weight and bias stacks. -/
def ops0 : List (HloOp τ sig (Elt F)) :=
  [StableHlo.unary main_arg2 main_v0 (broadcastInDim S1x2048x2048 ![1, 2] bcast_S2048x2048_S1x2048x2048_1_2 : (⟨S2048x2048, .f32⟩ : BufTy).Contents (Elt F) → (⟨S1x2048x2048, .f32⟩ : BufTy).Contents (Elt F)),
   StableHlo.unary main_arg4 main_v1 (broadcastInDim S1x2048x2048 ![1, 2] bcast_S2048x2048_S1x2048x2048_1_2 : (⟨S2048x2048, .f32⟩ : BufTy).Contents (Elt F) → (⟨S1x2048x2048, .f32⟩ : BufTy).Contents (Elt F)),
   StableHlo.binary main_v0 main_v1 main_v2 ((fun a b => concatenate S2x2048x2048 0 [⟨S1x2048x2048, a⟩, ⟨S1x2048x2048, b⟩] concatenates_S1x2048x2048_S1x2048x2048_S2x2048x2048_d0) : (⟨S1x2048x2048, .f32⟩ : BufTy).Contents (Elt F) → (⟨S1x2048x2048, .f32⟩ : BufTy).Contents (Elt F) → (⟨S2x2048x2048, .f32⟩ : BufTy).Contents (Elt F)),
   StableHlo.unary main_v2 main_v3 ((truncf .bf16 · bitsLt_bf16_f32) : (⟨S2x2048x2048, .f32⟩ : BufTy).Contents (Elt F) → (⟨S2x2048x2048, .bf16⟩ : BufTy).Contents (Elt F)),
   StableHlo.unary main_arg3 main_v4 (broadcastInDim S1x2048 ![1] bcast_S2048_S1x2048_1 : (⟨S2048, .f32⟩ : BufTy).Contents (Elt F) → (⟨S1x2048, .f32⟩ : BufTy).Contents (Elt F)),
   StableHlo.unary main_arg5 main_v5 (broadcastInDim S1x2048 ![1] bcast_S2048_S1x2048_1 : (⟨S2048, .f32⟩ : BufTy).Contents (Elt F) → (⟨S1x2048, .f32⟩ : BufTy).Contents (Elt F)),
   StableHlo.binary main_v4 main_v5 main_v6 ((fun a b => concatenate S2x2048 0 [⟨S1x2048, a⟩, ⟨S1x2048, b⟩] concatenates_S1x2048_S1x2048_S2x2048_d0) : (⟨S1x2048, .f32⟩ : BufTy).Contents (Elt F) → (⟨S1x2048, .f32⟩ : BufTy).Contents (Elt F) → (⟨S2x2048, .f32⟩ : BufTy).Contents (Elt F)),
   StableHlo.reshape main_v6 main_v7 (rfl : (.f32 : EltTy) = .f32) shapeCasts_S2x2048_S2x1x2048]

/-- The host operations of run 1: the sub-row list and the sub-row view of the tokens. -/
def ops1 : List (HloOp τ sig (Elt F)) :=
  [StableHlo.unary main_v8_0 main_v9 (broadcastInDim S512x16x1 ![0, 1] bcast_S512x16_S512x16x1_0_1 : (⟨S512x16, .i32⟩ : BufTy).Contents (Elt F) → (⟨S512x16x1, .i32⟩ : BufTy).Contents (Elt F)),
   StableHlo.nullary main_c (constantI S_ 32 8#32),
   StableHlo.unary main_c main_v10 (broadcastInDim S512x16x1 ![] bcast_S_S512x16x1 : (⟨S_, .i32⟩ : BufTy).Contents (Elt F) → (⟨S512x16x1, .i32⟩ : BufTy).Contents (Elt F)),
   StableHlo.binary main_v9 main_v10 main_v11 (muli : (⟨S512x16x1, .i32⟩ : BufTy).Contents (Elt F) → (⟨S512x16x1, .i32⟩ : BufTy).Contents (Elt F) → (⟨S512x16x1, .i32⟩ : BufTy).Contents (Elt F)),
   StableHlo.nullary main_v12 (iotaInDim S8 32 0),
   StableHlo.unary main_v12 main_v13 (broadcastInDim S1x1x8 ![2] bcast_S8_S1x1x8_2 : (⟨S8, .i32⟩ : BufTy).Contents (Elt F) → (⟨S1x1x8, .i32⟩ : BufTy).Contents (Elt F)),
   StableHlo.unary main_v11 main_v14 (broadcastInDim S512x16x8 ![0, 1, 2] bcast_S512x16x1_S512x16x8_0_1_2 : (⟨S512x16x1, .i32⟩ : BufTy).Contents (Elt F) → (⟨S512x16x8, .i32⟩ : BufTy).Contents (Elt F)),
   StableHlo.unary main_v13 main_v15 (broadcastInDim S512x16x8 ![0, 1, 2] bcast_S1x1x8_S512x16x8_0_1_2 : (⟨S1x1x8, .i32⟩ : BufTy).Contents (Elt F) → (⟨S512x16x8, .i32⟩ : BufTy).Contents (Elt F)),
   StableHlo.binary main_v14 main_v15 main_v16 (addi : (⟨S512x16x8, .i32⟩ : BufTy).Contents (Elt F) → (⟨S512x16x8, .i32⟩ : BufTy).Contents (Elt F) → (⟨S512x16x8, .i32⟩ : BufTy).Contents (Elt F)),
   StableHlo.reshape main_v16 main_v17 (rfl : (.i32 : EltTy) = .i32) shapeCasts_S512x16x8_S512x128,
   StableHlo.reshape main_arg0 main_v18 (rfl : (.f32 : EltTy) = .f32) shapeCasts_S8192x2048_S65536x2x128]

/-- The host operations of run 2: the padded rows as rows and the table. -/
def ops2 : List (HloOp τ sig (Elt F)) :=
  [StableHlo.reshape main_v19 main_v20 (rfl : (.f32 : EltTy) = .f32) shapeCasts_S67584x2x128_S8448x2048,
   StableHlo.nullary main_c_0 (constantI S_ 32 0#32),
   StableHlo.unary main_c_0 main_v21 (broadcastInDim S16 ![] bcast_S_S16 : (⟨S_, .i32⟩ : BufTy).Contents (Elt F) → (⟨S16, .i32⟩ : BufTy).Contents (Elt F)),
   StableHlo.binary main_v8_1 main_v21 main_v22 (addi : (⟨S16, .i32⟩ : BufTy).Contents (Elt F) → (⟨S16, .i32⟩ : BufTy).Contents (Elt F) → (⟨S16, .i32⟩ : BufTy).Contents (Elt F))]

/-- The host operations of run 3: the product as sub-rows. -/
def ops3 : List (HloOp τ sig (Elt F)) :=
  [StableHlo.reshape main_v23 main_v24 (rfl : (.f32 : EltTy) = .f32) shapeCasts_S8448x2048_S67584x2x128]

/-- The host operations of run 4: the output as rows. -/
def ops4 : List (HloOp τ sig (Elt F)) :=
  [StableHlo.reshape main_v25 main_v26 (rfl : (.f32 : EltTy) = .f32) shapeCasts_S65536x2x128_S8192x2048]

/-- The program is its host runs and its calls in order. -/
theorem main_eq (d : Dev nD) : main (F := F) d = (seq ops0 >>= fun _ => (sc (F := F)).run d 0 >>= fun _ => seq ops1 >>= fun _ => (sc (F := F)).run d 1 >>= fun _ => seq ops2 >>= fun _ =>
    Prog.lift (.customCall (SparseCore.inner (Pipeline.entry 0)) ()) >>= fun _ => seq ops3 >>= fun _ => (sc (F := F)).run d 2 >>= fun _ => seq ops4 >>= fun _ => pure ⟨⟩) := rfl

/-- The buffer of the TensorCore a reference of the program names. -/
abbrev dr (r : Ref sig .tc) : DevRef τ sig := Proc.devRef .tc r

variable (m : (ℓ : Loc nD τ sig) → Buf (Elt F) ℓ) (d : Dev nD)

/-- The contents at launch. -/
def V0 : Valuation τ sig (Elt F) := fun b => m (d, b)
/-- The tokens' flags. -/
def FL : S8192.Idx → BitVec 32 := m ((SparseCore.T d).loc main_arg1)
/-- Before the first call. -/
def V1 : Valuation τ sig (Elt F) := after ops0 (V0 m d)
/-- After the first call: the positions and the number of blocks are in place. -/
def V1c : Valuation τ sig (Elt F) := Function.update (Function.update (V1 m d) (dr main_v8_0) (Ro.POS (FL m d))) (dr main_v8_1) (Ro.NBLK (FL m d))
/-- Before the second call. -/
def V2 : Valuation τ sig (Elt F) := after ops1 (V1c m d)
/-- The tokens' sub-rows. -/
def XS : S65536x2x128.Idx → F .f32 := V2 m d (dr main_v18)
/-- The list of sub-row numbers. -/
def PS : S512x128.Idx → BitVec 32 := V2 m d (dr main_v17)
/-- What the padded array holds before the scatter. -/
def D0 : S67584x2x128.Idx → F .f32 := V2 m d (dr main_v19)
/-- After the second call: the tokens' sub-rows are at the list's sub-rows. -/
def V2c : Valuation τ sig (Elt F) := Function.update (V2 m d) (dr main_v19) (Sc.SCAT (F := F) (XS m d) (PS m d) (D0 m d))
/-- Before the blocked product. -/
def V3 : Valuation τ sig (Elt F) := after ops2 (V2c m d)
/-- The prefetched table. -/
def NB : S16.Idx → BitVec 32 := V3 m d (dr main_v22)
/-- The padded rows. -/
def XP : S8448x2048.Idx → F .f32 := V3 m d (dr main_v20)
/-- The two weights, stacked. -/
def WT : S2x2048x2048.Idx → F .bf16 := V3 m d (dr main_v3)
/-- The two biases, stacked. -/
def BT : S2x1x2048.Idx → F .f32 := V3 m d (dr main_v7)
/-- After the blocked product. -/
def V3c : Valuation τ sig (Elt F) := Function.update (V3 m d) (dr main_v23) (Mm.OUTP (F := F) (NB m d) (XP m d) (WT m d) (BT m d))
/-- Before the third call. -/
def V4 : Valuation τ sig (Elt F) := after ops3 (V3c m d)
/-- The product's sub-rows. -/
def OP : S67584x2x128.Idx → F .f32 := V4 m d (dr main_v24)
/-- After the third call: the output's sub-rows are gathered. -/
def V4c : Valuation τ sig (Elt F) := Function.update (V4 m d) (dr main_v25) (Ga.GATH (F := F) (OP m d) (PS m d))
/-- At the end. -/
def V5 : Valuation τ sig (Elt F) := after ops4 (V4c m d)

theorem ops0_other {r : Ref sig .tc} (W : Valuation τ sig (Elt F)) (hr : r ∉ [main_v0, main_v1, main_v2, main_v3, main_v4, main_v5, main_v6, main_v7]) : after ops0 W (dr r) = W (dr r) :=
  StableHlo.after_of_writes_sub _ _ (StableHlo.forall_writes_sub_of_map rfl) hr

theorem ops0_sub : ∀ op ∈ (ops0 (F := F)), op.bufs ⊆ StableHlo.tcRefs τ sig := by
  intro op h
  simp only [ops0, List.mem_cons, List.not_mem_nil, or_false] at h
  rcases h with rfl | rfl | rfl | rfl | rfl | rfl | rfl | rfl <;> simp

theorem ops0_fresh : ∀ op ∈ (ops0 (F := F)), op.fresh = ∅ := by
  intro op h
  simp only [ops0, List.mem_cons, List.not_mem_nil, or_false] at h
  rcases h with rfl | rfl | rfl | rfl | rfl | rfl | rfl | rfl <;> rfl

theorem ops1_other {r : Ref sig .tc} (W : Valuation τ sig (Elt F)) (hr : r ∉ [main_v9, main_c, main_v10, main_v11, main_v12, main_v13, main_v14, main_v15, main_v16, main_v17, main_v18]) : after ops1 W (dr r) = W (dr r) :=
  StableHlo.after_of_writes_sub _ _ (StableHlo.forall_writes_sub_of_map rfl) hr

theorem ops1_sub : ∀ op ∈ (ops1 (F := F)), op.bufs ⊆ StableHlo.tcRefs τ sig := by
  intro op h
  simp only [ops1, List.mem_cons, List.not_mem_nil, or_false] at h
  rcases h with rfl | rfl | rfl | rfl | rfl | rfl | rfl | rfl | rfl | rfl | rfl <;> simp

theorem ops1_fresh : ∀ op ∈ (ops1 (F := F)), op.fresh = ∅ := by
  intro op h
  simp only [ops1, List.mem_cons, List.not_mem_nil, or_false] at h
  rcases h with rfl | rfl | rfl | rfl | rfl | rfl | rfl | rfl | rfl | rfl | rfl <;> rfl

theorem ops2_other {r : Ref sig .tc} (W : Valuation τ sig (Elt F)) (hr : r ∉ [main_v20, main_c_0, main_v21, main_v22]) : after ops2 W (dr r) = W (dr r) :=
  StableHlo.after_of_writes_sub _ _ (StableHlo.forall_writes_sub_of_map rfl) hr

theorem ops2_sub : ∀ op ∈ (ops2 (F := F)), op.bufs ⊆ StableHlo.tcRefs τ sig := by
  intro op h
  simp only [ops2, List.mem_cons, List.not_mem_nil, or_false] at h
  rcases h with rfl | rfl | rfl | rfl <;> simp

theorem ops2_fresh : ∀ op ∈ (ops2 (F := F)), op.fresh = ∅ := by
  intro op h
  simp only [ops2, List.mem_cons, List.not_mem_nil, or_false] at h
  rcases h with rfl | rfl | rfl | rfl <;> rfl

theorem ops3_other {r : Ref sig .tc} (W : Valuation τ sig (Elt F)) (hr : r ∉ [main_v24]) : after ops3 W (dr r) = W (dr r) :=
  StableHlo.after_of_writes_sub _ _ (StableHlo.forall_writes_sub_of_map rfl) hr

theorem ops3_sub : ∀ op ∈ (ops3 (F := F)), op.bufs ⊆ StableHlo.tcRefs τ sig := by
  intro op h
  simp only [ops3, List.mem_cons, List.not_mem_nil, or_false] at h
  rcases h with rfl <;> simp

theorem ops3_fresh : ∀ op ∈ (ops3 (F := F)), op.fresh = ∅ := by
  intro op h
  simp only [ops3, List.mem_cons, List.not_mem_nil, or_false] at h
  rcases h with rfl <;> rfl

theorem ops4_other {r : Ref sig .tc} (W : Valuation τ sig (Elt F)) (hr : r ∉ [main_v26]) : after ops4 W (dr r) = W (dr r) :=
  StableHlo.after_of_writes_sub _ _ (StableHlo.forall_writes_sub_of_map rfl) hr

theorem ops4_sub : ∀ op ∈ (ops4 (F := F)), op.bufs ⊆ StableHlo.tcRefs τ sig := by
  intro op h
  simp only [ops4, List.mem_cons, List.not_mem_nil, or_false] at h
  rcases h with rfl <;> simp

theorem ops4_fresh : ∀ op ∈ (ops4 (F := F)), op.fresh = ∅ := by
  intro op h
  simp only [ops4, List.mem_cons, List.not_mem_nil, or_false] at h
  rcases h with rfl <;> rfl

theorem dr_ne {x y : Ref sig .tc} (h : x ≠ y) : dr x ≠ dr y := StableHlo.devRef_ne_of_ne h

/-- A buffer that no host operation of the first run writes is as launched before the first call. -/
theorem V1_other {r : Ref sig .tc} (hr : r ∉ [main_v0, main_v1, main_v2, main_v3, main_v4, main_v5, main_v6, main_v7]) : V1 m d (dr r) = m (d, dr r) := ops0_other _ hr

theorem V1_flags : V1 m d (dr main_arg1) = FL m d := V1_other m d (by decide)

/-- The list is not written after the second call. -/
theorem V4_list : V4 m d (dr main_v17) = PS m d := by
  unfold V4 V3c V3 V2c
  rw [ops3_other _ (by decide), Function.update_of_ne (dr_ne (by decide)), ops2_other _ (by decide), Function.update_of_ne (dr_ne (by decide))]
  rfl

/-- The program writes none of its arguments. -/
theorem V5_arg {r : Ref sig .tc} (hr : r ∈ [main_arg0, main_arg1, main_arg2, main_arg3, main_arg4, main_arg5]) : V5 m d (dr r) = m (d, dr r) := by
  simp only [List.mem_cons, List.not_mem_nil, or_false] at hr
  unfold V5 V4c V4 V3c V3 V2c V2 V1c V1
  rcases hr with rfl | rfl | rfl | rfl | rfl | rfl <;>
  · rw [ops4_other _ (by decide), Function.update_of_ne (dr_ne (by decide)), ops3_other _ (by decide), Function.update_of_ne (dr_ne (by decide)), ops2_other _ (by decide),
      Function.update_of_ne (dr_ne (by decide)), ops1_other _ (by decide), Function.update_of_ne (dr_ne (by decide)), Function.update_of_ne (dr_ne (by decide)), ops0_other _ (by decide)]
    rfl

end Cert.Proof.Route

end
-- ==== Proof.List17.lean ====
/-
  The list of sub-row numbers the host builds from the positions: its words, their range, and that no two are equal.
-/
module

public import proofs.«01_k».proof.Proof.Vals

@[expose] public section

noncomputable section

namespace Cert.Proof.Route

open Cert.KernelIdeal Cert.KernelIdeal.Gen

open Idealize.ShloMosaic Idealize.ShloMosaic.ValueIdx
open Idealize.SL Idealize.SL.Sem
open Idealize.ShloMosaic.StableHlo

variable {F : FTy → Type} [FloatOps F]
variable (m : (ℓ : Loc nD τ sig) → Buf (Elt F) ℓ) (d : Dev nD)

/-- The list as the host's operations build it from the positions. -/
def HOSTL (p : S512x16.Idx → BitVec 32) : S512x128.Idx → BitVec 32 :=
  shapeCast S512x128 (addi (broadcastInDim S512x16x8 ![0, 1, 2] bcast_S512x16x1_S512x16x8_0_1_2 (muli (broadcastInDim S512x16x1 ![0, 1] bcast_S512x16_S512x16x1_0_1 p)
      (broadcastInDim S512x16x1 ![] bcast_S_S512x16x1 (constantI S_ 32 8#32))))
    (broadcastInDim S512x16x8 ![0, 1, 2] bcast_S1x1x8_S512x16x8_0_1_2 (broadcastInDim S1x1x8 ![2] bcast_S8_S1x1x8_2 (iotaInDim S8 32 0)))) shapeCasts_S512x16x8_S512x128

theorem PS_host : PS m d = HOSTL (Ro.POS (FL m d)) := by
  have h : V1c m d (dr main_v8_0) = Ro.POS (FL m d) := by
    unfold V1c
    rw [Function.update_of_ne (dr_ne (by decide)), Function.update_self]
  unfold PS V2
  refine Eq.trans (b := HOSTL (V1c m d (dr main_v8_0))) ?_ (congrArg HOSTL h)
  unfold ops1 HOSTL
  after_results_simp
  rfl

/-- One word of the list: sub-row `x 1 % 8` of the row of token `16 * x 0 + x 1 / 8`. -/
theorem HOSTL_word (fl : S8192.Idx → BitVec 32) (x : S512x128.Idx) :
    HOSTL (Ro.POS fl) x = BitVec.ofNat 32 (dest fl (16 * (x 0).val + (x 1).val / 8) * 8 + (x 1).val % 8) := by
  have h0 : (x 0).val < 512 := (x 0).isLt
  have h1 : (x 1).val < 128 := (x 1).isLt
  have e : Shape.reshapeEquiv shapeCasts_S512x16x8_S512x128 x = (ix3 (⟨(x 0).val, h0⟩ : Fin 512) (⟨(x 1).val / 8, by omega⟩ : Fin 16) (⟨(x 1).val % 8, by omega⟩ : Fin 8) : S512x16x8.Idx) := by
    refine Shape.reshapeEquiv_eq_of_rowMajor _ ?_
    rw [Shape.rowMajor_val_three, Shape.rowMajor_val_two]
    show ((x 0).val * 16 + (x 1).val / 8) * 8 + (x 1).val % 8 = (x 0).val * 128 + (x 1).val
    omega
  unfold HOSTL shapeCast
  rw [e]
  show BitVec.ofNat 32 (dest fl (16 * (x 0).val + (x 1).val / 8)) * 8#32 + BitVec.ofNat 32 ((x 1).val % 8) = _
  rw [← BitVec.ofNat_mul, ← BitVec.ofNat_add]

variable {fl : S8192.Idx → BitVec 32} (h : Flags fl)

include h in
theorem HOSTL_toNat (x : S512x128.Idx) : (HOSTL (Ro.POS fl) x).toNat = dest fl (16 * (x 0).val + (x 1).val / 8) * 8 + (x 1).val % 8 := by
  have h0 : (x 0).val < 512 := (x 0).isLt
  have h1 : (x 1).val < 128 := (x 1).isLt
  have := dest_lt h (t := 16 * (x 0).val + (x 1).val / 8) (by omega)
  rw [HOSTL_word, BitVec.toNat_ofNat, Nat.mod_eq_of_lt (by omega)]

include h in
theorem HOSTL_lt (x : S512x128.Idx) : (HOSTL (Ro.POS fl) x).toNat < 67584 := by
  have h0 : (x 0).val < 512 := (x 0).isLt
  have h1 : (x 1).val < 128 := (x 1).isLt
  have := dest_lt h (t := 16 * (x 0).val + (x 1).val / 8) (by omega)
  rw [HOSTL_toNat h]; omega

include h in
theorem HOSTL_inj : Function.Injective fun x : S512x128.Idx => (HOSTL (Ro.POS fl) x).toNat := by
  intro x y e
  have e' : dest fl (16 * (x 0).val + (x 1).val / 8) * 8 + (x 1).val % 8 = dest fl (16 * (y 0).val + (y 1).val / 8) * 8 + (y 1).val % 8 := by
    rw [← HOSTL_toNat h, ← HOSTL_toNat h]; exact e
  have h0 : (x 0).val < 512 := (x 0).isLt
  have h1 : (x 1).val < 128 := (x 1).isLt
  have g0 : (y 0).val < 512 := (y 0).isLt
  have g1 : (y 1).val < 128 := (y 1).isLt
  have e2 := dest_inj h (s := 16 * (x 0).val + (x 1).val / 8) (t := 16 * (y 0).val + (y 1).val / 8) (by omega) (by omega) (by omega)
  funext a
  apply Fin.ext
  match a with
  | 0 => show (x 0).val = (y 0).val; omega
  | 1 => show (x 1).val = (y 1).val; omega

theorem PS_lt (hf : Flags (FL m d)) (x : S512x128.Idx) : (PS m d x).toNat < 67584 := by rw [PS_host]; exact HOSTL_lt hf x

theorem PS_inj (hf : Flags (FL m d)) : Function.Injective fun x : S512x128.Idx => (PS m d x).toNat := by rw [PS_host]; exact HOSTL_inj hf

end Cert.Proof.Route

end
-- ==== Proof.Pay.lean ====
/-
  What the three SparseCore calls hand their tiles and get back, and that every tile meets its part: the payloads of the
  launch, as functions of the launch memory.
-/
module

public import proofs.«01_k».proof.Proof.List17

@[expose] public section

noncomputable section

namespace Cert.Proof.Route

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 3) (Elt F) ℕ UU ℕ

variable (m : (ℓ : Loc nD τ sig) → Buf (Elt F) ℓ) (d : Dev nD)

/-- The point of a call's grid that subcore `s` of SparseCore `c` is. -/
def at0 (c : Fin 2) (s : Fin 16) : grid0.Coords := fun | 0 => c | 1 => s | ⟨_ + 2, h⟩ => absurd h (Nat.not_lt.2 (Nat.le_add_left _ _))
def at1 (c : Fin 2) (s : Fin 16) : grid1.Coords := fun | 0 => c | 1 => s | ⟨_ + 2, h⟩ => absurd h (Nat.not_lt.2 (Nat.le_add_left _ _))
def at3 (c : Fin 2) (s : Fin 16) : grid3.Coords := fun | 0 => c | 1 => s | ⟨_ + 2, h⟩ => absurd h (Nat.not_lt.2 (Nat.le_add_left _ _))

/-- A tile's share of an array every tile reads, out of the share `q`. -/
def shr (q : PosShare TreeShare) (c : Fin 2) (s : Fin 16) : PosShare TreeShare := shareTok (shareTok q 2 c) 16 s
/-- What the second call's tiles leave of the list, which the third call's tiles read too. -/
def left : PosShare TreeShare := shareDrop fullShare 2

/-- Call 0: the flags to read, the tile's part of the positions, and the first tile's array of the number of blocks. -/
def go0 (c : Fin 2) (s : Fin 16) : sProp 𝕄 :=
  iprop((Ro.fLoc d ↦{shr fullShare c s} FL m d) ∗ (Ro.pLoc d ↦[Ro.part (at0 c s)]{fullShare} V1 m d (dr main_v8_0))
    ∗ if Ro.base (at0 c s) = 0 then (Ro.nLoc d ↦{fullShare} V1 m d (dr main_v8_1) : sProp 𝕄) else emp)
def td0 (c : Fin 2) (s : Fin 16) : sProp 𝕄 :=
  iprop((Ro.pLoc d ↦[Ro.part (at0 c s)]{fullShare} Ro.POS (FL m d))
    ∗ if Ro.base (at0 c s) = 0 then (Ro.nLoc d ↦{fullShare} Ro.NBLK (FL m d) : sProp 𝕄) else emp)

/-- Call 1: the tokens' sub-rows and the list to read, and the sub-rows of the padded array that the tile's part of the list names. -/
def go1 (c : Fin 2) (s : Fin 16) : sProp 𝕄 :=
  iprop((Sc.xLoc d ↦{shr fullShare c s} XS m d) ∗ (Sc.pLoc d ↦{shr fullShare c s} PS m d)
    ∗ bigSep Finset.univ fun j : Fin 16 => (Sc.dLoc d ↦[Sc.rowsAt (F := F) (PS m d) (Sc.lrowOf (at1 c s) j)]{fullShare} D0 m d : sProp 𝕄))
def td1 (c : Fin 2) (s : Fin 16) : sProp 𝕄 :=
  bigSep Finset.univ fun j : Fin 16 => (Sc.dLoc d ↦[Sc.rowsAt (F := F) (PS m d) (Sc.lrowOf (at1 c s) j)]{fullShare} Sc.SCAT (F := F) (XS m d) (PS m d) (D0 m d) : sProp 𝕄)

/-- Call 2: the product's sub-rows and the list to read, and the tile's part of the output's sub-rows. -/
def go2 (c : Fin 2) (s : Fin 16) : sProp 𝕄 :=
  iprop((Ga.oLoc d ↦{shr fullShare c s} OP m d) ∗ (Ga.pLoc d ↦{shr left c s} PS m d)
    ∗ bigSep Finset.univ fun j : Fin 16 => (Ga.rLoc d ↦[Ga.chunk (at3 c s) j]{fullShare} V4 m d (dr main_v25) : sProp 𝕄))
def td2 (c : Fin 2) (s : Fin 16) : sProp 𝕄 :=
  bigSep Finset.univ fun j : Fin 16 => (Ga.rLoc d ↦[Ga.chunk (at3 c s) j]{fullShare} Ga.GATH (F := F) (OP m d) (PS m d) : sProp 𝕄)

instance go0_storable (c : Fin 2) (s : Fin 16) : BI.Storable (upEmb : UEmb _ 𝕄) (go0 m d c s) := by unfold go0; split <;> infer_instance
instance td0_storable (c : Fin 2) (s : Fin 16) : BI.Storable (upEmb : UEmb _ 𝕄) (td0 m d c s) := by unfold td0; split <;> infer_instance
instance go1_storable (c : Fin 2) (s : Fin 16) : BI.Storable (upEmb : UEmb _ 𝕄) (go1 m d c s) := by unfold go1; infer_instance
instance td1_storable (c : Fin 2) (s : Fin 16) : BI.Storable (upEmb : UEmb _ 𝕄) (td1 m d c s) := by unfold td1; infer_instance
instance go2_storable (c : Fin 2) (s : Fin 16) : BI.Storable (upEmb : UEmb _ 𝕄) (go2 m d c s) := by unfold go2; infer_instance
instance td2_storable (c : Fin 2) (s : Fin 16) : BI.Storable (upEmb : UEmb _ 𝕄) (td2 m d c s) := by unfold td2; infer_instance

/-- A call's payloads: a sequencer gets its sixteen tiles' and gives theirs back. -/
def P : (K (F := F)).Pay (nD := nD) (Val := Elt F) (Name := ℕ) (U := UU) where
  st := fun q d => match q with
    | 0 => fun c => bigSep (Finset.univ : Finset (Fin 16)) fun s => go0 m d c s
    | 1 => fun c => bigSep (Finset.univ : Finset (Fin 16)) fun s => go1 m d c s
    | 2 => fun c => bigSep (Finset.univ : Finset (Fin 16)) fun s => go2 m d c s
  dn := fun q d => match q with
    | 0 => fun c => bigSep (Finset.univ : Finset (Fin 16)) fun s => td0 m d c s
    | 1 => fun c => bigSep (Finset.univ : Finset (Fin 16)) fun s => td1 m d c s
    | 2 => fun c => bigSep (Finset.univ : Finset (Fin 16)) fun s => td2 m d c s
  go := fun q d => match q with
    | 0 => fun c s => go0 m d c s
    | 1 => fun c s => go1 m d c s
    | 2 => fun c s => go2 m d c s
  td := fun q d => match q with
    | 0 => fun c s => td0 m d c s
    | 1 => fun c s => td1 m d c s
    | 2 => fun c s => td2 m d c s
  x := fun _ _ => iprop(emp)

instance P_storable : (P (F := F) m).IsStorable where
  st q d c := match q with
    | 0 => (inferInstance : BI.Storable (upEmb : UEmb _ 𝕄) (bigSep (Finset.univ : Finset (Fin 16)) fun s => go0 m d c s))
    | 1 => (inferInstance : BI.Storable (upEmb : UEmb _ 𝕄) (bigSep (Finset.univ : Finset (Fin 16)) fun s => go1 m d c s))
    | 2 => (inferInstance : BI.Storable (upEmb : UEmb _ 𝕄) (bigSep (Finset.univ : Finset (Fin 16)) fun s => go2 m d c s))
  dn q d c := match q with
    | 0 => (inferInstance : BI.Storable (upEmb : UEmb _ 𝕄) (bigSep (Finset.univ : Finset (Fin 16)) fun s => td0 m d c s))
    | 1 => (inferInstance : BI.Storable (upEmb : UEmb _ 𝕄) (bigSep (Finset.univ : Finset (Fin 16)) fun s => td1 m d c s))
    | 2 => (inferInstance : BI.Storable (upEmb : UEmb _ 𝕄) (bigSep (Finset.univ : Finset (Fin 16)) fun s => td2 m d c s))
  go q d c s := match q with
    | 0 => go0_storable m d c s
    | 1 => go1_storable m d c s
    | 2 => go2_storable m d c s
  td q d c s := match q with
    | 0 => td0_storable m d c s
    | 1 => td1_storable m d c s
    | 2 => td2_storable m d c s

/-! ## The tiles meet their parts -/

theorem defs₀_vector0 (c : Fin τ.nSC) (s : Fin τ.nSub) :
    defs₀ (F := F) (.scVector c s) 0 () = SparseCore.onTile hcore0 hsub0 (fun c s => cc0__route (at0 c s) (Memref.whole main_arg1_scv) (Memref.isWhole_whole _) (Memref.whole main_v8_0_scv) (Memref.isWhole_whole _) (Memref.whole main_v8_1_scv) (Memref.isWhole_whole _)
      (Memref.whole cc0_scratch0) (Memref.isWhole_whole _) (Memref.whole cc0_scratch1) (Memref.isWhole_whole _) (Memref.whole cc0_scratch2) (Memref.isWhole_whole _) cc0_scoped0 cc0_scoped1 cc0_scoped2) ⟨⟩ c s := rfl

theorem defs₀_vector1 (c : Fin τ.nSC) (s : Fin τ.nSub) :
    defs₀ (F := F) (.scVector c s) 1 () = SparseCore.onTile hcore1 hsub1 (fun c s => cc1__scatter_x (at1 c s) (Memref.whole main_v18_scv) (Memref.isWhole_whole _) (Memref.whole main_v17_scv) (Memref.isWhole_whole _) (Memref.whole main_v19_scv) (Memref.isWhole_whole _)
      (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scoped0) ⟨⟩ c s := rfl

theorem defs₀_vector3 (c : Fin τ.nSC) (s : Fin τ.nSub) :
    defs₀ (F := F) (.scVector c s) 3 () = SparseCore.onTile hcore3 hsub3 (fun c s => cc3__gather_out (at3 c s) (Memref.whole main_v24_scv) (Memref.isWhole_whole _) (Memref.whole main_v17_scv) (Memref.isWhole_whole _) (Memref.whole main_v25_scv) (Memref.isWhole_whole _)
      (Memref.whole cc3_scratch0) (Memref.isWhole_whole _) (Memref.whole cc3_scratch1) (Memref.isWhole_whole _) (Memref.whole cc3_scratch2) (Memref.isWhole_whole _) cc3_scratch3 cc3_scratch4 cc3_scratch5 cc3_scratch6 cc3_scoped0) ⟨⟩ c s := rfl

theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  iexact HO

variable (hf : ∀ d, Flags (FL m d))

include hf in
set_option maxRecDepth 16384 in
theorem tileObl0 : (K (F := F)).TileObl (D (F := F)) 𝒱 (P m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]
  simp only [SparseCore.onTile, hci, and_self, ↓reduceDIte]
  exact (Ro.tile_body d (at0 ⟨_, hci.1⟩ ⟨_, hci.2⟩) facts (FL m d) (hf d) (V1 m d (dr main_v8_0)) (V1 m d (dr main_v8_1)) (shr fullShare c i) O W hO).trans (wp_mono frame _ _ fun _ => obl_post)

include hf in
set_option maxRecDepth 16384 in
theorem tileObl1 : (K (F := F)).TileObl (D (F := F)) 𝒱 (P m) v₀ 1 := by
  intro d c i O W hO _ _
  simp only [show (P (F := F) m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]
  simp only [SparseCore.onTile, hci, and_self, ↓reduceDIte]
  exact (Sc.tile_body d (at1 ⟨_, hci.1⟩ ⟨_, hci.2⟩) facts (XS m d) (PS m d) (PS_lt m d (hf d)) (PS_inj m d (hf d)) (D0 m d) (shr fullShare c i) (shr fullShare c i) O W hO).trans (wp_mono frame _ _ fun _ => obl_post)

include hf in
set_option maxRecDepth 16384 in
theorem tileObl2 : (K (F := F)).TileObl (D (F := F)) 𝒱 (P m) v₀ 2 := by
  intro d c i O W hO _ _
  simp only [show (P (F := F) m).ox = fun _ _ => 0 from rfl, add_zero]
  have hci : ((K (F := F)).core 2 c).val < grid3.bound 0 ∧ ((K (F := F)).sub 2 i).val < grid3.bound 1 := ⟨c.isLt, i.isLt⟩
  change _ ⊢ wp _ _ _ (Pipeline.liftProg (defs₀ (F := F) (.scVector ((K (F := F)).core 2 c) ((K (F := F)).sub 2 i)) 3 ())) _
  refine BI.Entails.trans ?_ (Pipeline.wp_liftProg (D (F := F)) (Pipeline.defs_kernel pcfgs defs₀) 𝒱₀ _ Set.univ none _ _)
  rw [defs₀_vector3]
  simp only [SparseCore.onTile, hci, and_self, ↓reduceDIte]
  exact (Ga.tile_body d (at3 ⟨_, hci.1⟩ ⟨_, hci.2⟩) facts (OP m d) (PS m d) (PS_lt m d (hf d)) (V4 m d (dr main_v25)) (shr fullShare c i) (shr left c i) O W hO).trans (wp_mono frame _ _ fun _ => obl_post)

theorem vecSplit0 : (K (F := F)).VecSplit' (P m) 0 := by
  intro d c
  show bigSep (Finset.univ : Finset (Fin 16)) (fun s => go0 m d c s) ⊢ |={Set.univ}=> iprop((bigSep (Finset.univ : Finset (Fin 16)) fun s => go0 m d c s)
    ∗ ((bigSep (Finset.univ : Finset (Fin 16)) fun s => td0 m d c s) -∗ bigSep (Finset.univ : Finset (Fin 16)) fun s => td0 m d c s))
  iintro H; imodintro
  isplitl [H]; · iexact H
  iintro H; iexact H

theorem vecSplit1 : (K (F := F)).VecSplit' (P m) 1 := by
  intro d c
  show bigSep (Finset.univ : Finset (Fin 16)) (fun s => go1 m d c s) ⊢ |={Set.univ}=> iprop((bigSep (Finset.univ : Finset (Fin 16)) fun s => go1 m d c s)
    ∗ ((bigSep (Finset.univ : Finset (Fin 16)) fun s => td1 m d c s) -∗ bigSep (Finset.univ : Finset (Fin 16)) fun s => td1 m d c s))
  iintro H; imodintro
  isplitl [H]; · iexact H
  iintro H; iexact H

theorem vecSplit2 : (K (F := F)).VecSplit' (P m) 2 := by
  intro d c
  show bigSep (Finset.univ : Finset (Fin 16)) (fun s => go2 m d c s) ⊢ |={Set.univ}=> iprop((bigSep (Finset.univ : Finset (Fin 16)) fun s => go2 m d c s)
    ∗ ((bigSep (Finset.univ : Finset (Fin 16)) fun s => td2 m d c s) -∗ bigSep (Finset.univ : Finset (Fin 16)) fun s => td2 m d c s))
  iintro H; imodintro
  isplitl [H]; · iexact H
  iintro H; iexact H

end Cert.Proof.Route

end
-- ==== Proof.Deal.lean ====
/-
  How the TensorCore's whole arrays become the tiles' parts at each SparseCore call, and come back.
-/
module

public import proofs.«01_k».proof.Proof.Pay

@[expose] public section

noncomputable section

namespace Cert.Proof.Route

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 3) (Elt F) ℕ UU ℕ

/-- A separating product over the SparseCores and their subcores. -/
def tiles (Φ : Fin 2 → Fin 16 → sProp 𝕄) : sProp 𝕄 := bigSep (Finset.univ : Finset (Fin 2)) fun c => bigSep (Finset.univ : Finset (Fin 16)) fun s => Φ c s

theorem tiles_sep (Φ Ψ : Fin 2 → Fin 16 → sProp 𝕄) : tiles (fun c s => iprop(Φ c s ∗ Ψ c s)) = iprop(tiles Φ ∗ tiles Ψ) := by
  unfold tiles
  rw [← bigSep_sep']
  exact bigSep_congr fun c _ => bigSep_sep' _ _ _

theorem tiles_congr {Φ Ψ : Fin 2 → Fin 16 → sProp 𝕄} (h : ∀ c s, Φ c s = Ψ c s) : tiles Φ = tiles Ψ :=
  congrArg tiles (funext fun c => funext fun s => h c s)

/-- A whole array's shares for the tiles that read it, and what is left of it. -/
theorem deal_read {ℓ : Loc nD τ sig} (q : PosShare TreeShare) (f : Buf (Elt F) ℓ) :
    (ℓ ↦{q} f : sProp 𝕄) ⊢ iprop((ℓ ↦{shareDrop q 2} f) ∗ tiles fun c s => ℓ ↦{shr q c s} f) := by
  refine (Transfers.pointsTo_toks q 2).1.trans (sep_mono .rfl ?_)
  exact bigSep_mono fun c _ => (Transfers.pointsTo_toks _ 16).1.trans sep_elim_right

/-- A product in which one tile has the whole of something and the others nothing. -/
theorem tiles_first (X : sProp 𝕄) : tiles (fun c s => if Ro.base (at0 c s) = 0 then X else iprop(emp)) = X := by
  unfold tiles
  rw [← bigSep_univ_prod (fun x : Fin 2 × Fin 16 => if Ro.base (at0 x.1 x.2) = 0 then X else iprop(emp))]
  rw [← Finset.insert_erase (Finset.mem_univ ((0, 0) : Fin 2 × Fin 16)), SparseCore.bigSep_insert' (Finset.notMem_erase _ _), if_pos (by rfl)]
  rw [bigSep_congr (Ψ := fun _ => iprop(emp)) (fun x hx => if_neg (by
    intro h
    apply (Finset.mem_erase.1 hx).1
    have h' : 512 * x.2.val + 256 * x.1.val = 0 := h
    exact Prod.ext (Fin.ext (by show x.1.val = 0; omega)) (Fin.ext (by show x.2.val = 0; omega))))]
  have he : (bigSep (Finset.univ.erase ((0, 0) : Fin 2 × Fin 16)) fun _ => (iprop(emp) : sProp 𝕄)) = iprop(emp) := bigSep_emp_const _
  rw [he]
  exact BI.equiv_iff.mp BI.sep_emp

/-- The rows of a tile's part, by their numbers. -/
def rowNo2 : Fin 2 × Fin 16 ≃ Fin 32 := Equiv.ofBijective (fun x => ⟨2 * x.2.val + x.1.val, by omega⟩)
  ((Fintype.bijective_iff_injective_and_card _).2 ⟨fun x y h => by
    have h' : 2 * x.2.val + x.1.val = 2 * y.2.val + y.1.val := congrArg Fin.val h
    exact Prod.ext (Fin.ext (by omega)) (Fin.ext (by omega)), rfl⟩)

def rowNo3 : (Fin 2 × Fin 16) × Fin 16 ≃ Fin 512 := Equiv.ofBijective (fun x => ⟨32 * x.1.2.val + 16 * x.1.1.val + x.2.val, by omega⟩)
  ((Fintype.bijective_iff_injective_and_card _).2 ⟨fun x y h => by
    have h' : 32 * x.1.2.val + 16 * x.1.1.val + x.2.val = 32 * y.1.2.val + 16 * y.1.1.val + y.2.val := congrArg Fin.val h
    exact Prod.ext (Prod.ext (Fin.ext (by omega)) (Fin.ext (by omega))) (Fin.ext (by omega)), by simp⟩)

/-- An array held on 32 disjoint parts is held on each of them by the tile of that number. -/
theorem parts32 {ℓ : Loc nD τ sig} (f : Buf (Elt F) ℓ) (part : Fin 32 → Finset (Idx ℓ)) (hd : ∀ r r', r ≠ r' → Disjoint (part r) (part r')) :
    (ℓ ↦[Finset.univ.biUnion part]{fullShare} f : sProp 𝕄) = tiles fun c s => ℓ ↦[part (rowNo2 (c, s))]{fullShare} f := by
  rw [pointsTo_biUnion _ _ (fun r _ r' _ h => hd r r' h), bigSep_univ_equiv rowNo2, bigSep_univ_prod]
  rfl

/-- The same for 512 parts, sixteen to a tile. -/
theorem parts512 {ℓ : Loc nD τ sig} (f : Buf (Elt F) ℓ) (part : Fin 512 → Finset (Idx ℓ)) (hd : ∀ r r', r ≠ r' → Disjoint (part r) (part r')) :
    (ℓ ↦[Finset.univ.biUnion part]{fullShare} f : sProp 𝕄) = tiles fun c s => bigSep (Finset.univ : Finset (Fin 16)) fun j => ℓ ↦[part (rowNo3 ((c, s), j))]{fullShare} f := by
  rw [pointsTo_biUnion _ _ (fun r _ r' _ h => hd r r' h), bigSep_univ_equiv rowNo3, bigSep_univ_prod, bigSep_univ_prod]
  rfl

/-! ## Call 0 -/

/-- Sixteen lines of the positions. -/
def band16 (r : Fin 32) : Finset S512x16.Idx := Finset.univ.filter fun x => (x 0).val / 16 = r.val

theorem part_eq (c : Fin 2) (s : Fin 16) : Ro.part (at0 c s) = band16 (rowNo2 (c, s)) := by
  ext x
  have hx0 : (x 0).val < 512 := (x 0).isLt
  have hx1 : (x 1).val < 16 := (x 1).isLt
  simp only [band16, Finset.mem_filter, Finset.mem_univ, true_and]
  show x ∈ (Ro.pS (at0 c s)).view.set ↔ (x 0).val / 16 = 2 * s.val + c.val
  constructor
  · intro h
    obtain ⟨y, -, rfl⟩ := Finset.mem_map.1 h
    have e := Ro.pS_emb (at0 c s) y 0
    have hy : (y 0).val < 16 := (y 0).isLt
    change _ = 32 * s.val + 16 * c.val + (y 0).val at e
    rw [e]; omega
  · intro h
    refine Finset.mem_map.2 ⟨ValueIdx.ix2 (⟨(x 0).val % 16, Nat.mod_lt _ (by norm_num)⟩ : Fin 16) (⟨(x 1).val, hx1⟩ : Fin 16), Finset.mem_univ _, ?_⟩
    funext a
    apply Fin.ext
    refine (Ro.pS_emb (at0 c s) _ a).trans ?_
    match a with
    | 0 => show 32 * s.val + 16 * c.val + (x 0).val % 16 = (x 0).val; omega
    | 1 => show 0 + (x 1).val = (x 1).val; omega

theorem band16_disjoint (r r' : Fin 32) (h : r ≠ r') : Disjoint (band16 r) (band16 r') := by
  rw [Finset.disjoint_left]
  intro x hx hx'
  simp only [band16, Finset.mem_filter, Finset.mem_univ, true_and] at hx hx'
  exact h (Fin.ext (hx.symm.trans hx'))

theorem band16_cover : Finset.univ.biUnion band16 = Finset.univ := by
  ext x
  have hx0 : (x 0).val < 512 := (x 0).isLt
  simp only [Finset.mem_biUnion, Finset.mem_univ, true_and, iff_true]
  exact ⟨⟨(x 0).val / 16, by omega⟩, by simp [band16]⟩

theorem pos_tiles (d : Dev nD) (f : Buf (Elt F) (Ro.pLoc d)) : (Ro.pLoc d ↦{fullShare} f : sProp 𝕄) = tiles fun c s => Ro.pLoc d ↦[Ro.part (at0 c s)]{fullShare} f := by
  rw [← band16_cover]
  refine (parts32 (ℓ := Ro.pLoc d) f band16 band16_disjoint).trans (tiles_congr fun c s => ?_)
  rw [part_eq]

variable (m : (ℓ : Loc nD τ sig) → Buf (Elt F) ℓ) (d : Dev nD)

theorem deal0 :
    iprop((Ro.fLoc d ↦{fullShare} FL m d) ∗ (Ro.pLoc d ↦{fullShare} V1 m d (dr main_v8_0)) ∗ (Ro.nLoc d ↦{fullShare} V1 m d (dr main_v8_1)))
      ⊢ (iprop((Ro.fLoc d ↦{shareDrop fullShare 2} FL m d) ∗ tiles fun c s => go0 m d c s) : sProp 𝕄) := by
  unfold go0
  rw [tiles_sep, tiles_sep, ← pos_tiles, tiles_first]
  iintro ⟨Hf, Hp, Hn⟩
  ihave H := (deal_read (F := F) fullShare _) $$ Hf
  icases H with ⟨Hd, Hf⟩
  isplitl [Hd]; · iexact Hd
  isplitl [Hf]; · iexact Hf
  isplitl [Hp]; · iexact Hp
  iexact Hn

theorem join0 : (tiles fun c s => td0 m d c s) = (iprop((Ro.pLoc d ↦{fullShare} Ro.POS (FL m d)) ∗ (Ro.nLoc d ↦{fullShare} Ro.NBLK (FL m d))) : sProp 𝕄) := by
  unfold td0
  rw [tiles_sep, tiles_first]
  exact congrArg (fun X : sProp 𝕄 => iprop(X ∗ (Ro.nLoc d ↦{fullShare} Ro.NBLK (FL m d)))) (pos_tiles d (Ro.POS (FL m d))).symm

/-! ## Call 1 -/

/-- The elements some entry of the list names. -/
def named (ps : S512x128.Idx → BitVec 32) : Finset S67584x2x128.Idx := Finset.univ.biUnion (Sc.rowsAt (F := F) ps)

theorem rowsAt_disjoint {ps : S512x128.Idx → BitVec 32} (hps : ∀ r, (ps r).toNat < 67584) (hinj : Function.Injective fun r : S512x128.Idx => (ps r).toNat)
    (r r' : Fin 512) (h : r ≠ r') : Disjoint (Sc.rowsAt (F := F) ps r) (Sc.rowsAt (F := F) ps r') := by
  rw [Finset.disjoint_left]
  intro x hx hx'
  simp only [Sc.rowsAt, Finset.mem_filter, Finset.mem_univ, true_and] at hx hx'
  obtain ⟨l, hl⟩ := hx
  obtain ⟨l', hl'⟩ := hx'
  have e : padRow (ps (ValueIdx.ix2 r l)) = padRow (ps (ValueIdx.ix2 r' l')) := hl.symm.trans hl'
  have e' := congrArg Fin.val e
  rw [padRow_val (hps _), padRow_val (hps _)] at e'
  exact h (congrFun (hinj e') 0)

variable (hf : Flags (FL m d))

include hf in
theorem dst_tiles (f : Buf (Elt F) (Sc.dLoc d)) :
    (Sc.dLoc d ↦[named (F := F) (PS m d)]{fullShare} f : sProp 𝕄)
      = tiles fun c s => bigSep (Finset.univ : Finset (Fin 16)) fun j => Sc.dLoc d ↦[Sc.rowsAt (F := F) (PS m d) (Sc.lrowOf (at1 c s) j)]{fullShare} f :=
  parts512 (ℓ := Sc.dLoc d) f (Sc.rowsAt (F := F) (PS m d)) (rowsAt_disjoint (PS_lt m d hf) (PS_inj m d hf))

include hf in
theorem deal1 :
    iprop((Sc.xLoc d ↦{fullShare} XS m d) ∗ (Sc.pLoc d ↦{fullShare} PS m d) ∗ (Sc.dLoc d ↦{fullShare} D0 m d))
      ⊢ (iprop(((Sc.pLoc d ↦{left} PS m d) ∗ (Sc.dLoc d ↦[Finset.univ \ named (F := F) (PS m d)]{fullShare} D0 m d)) ∗ tiles fun c s => go1 m d c s) : sProp 𝕄) := by
  unfold go1
  rw [tiles_sep, tiles_sep, ← dst_tiles m d hf]
  iintro ⟨Hx, Hp, Hd⟩
  ihave H := (deal_read (F := F) fullShare _) $$ Hx
  icases H with ⟨-, Hx⟩
  ihave H := (deal_read (F := F) fullShare _) $$ Hp
  icases H with ⟨Hk, Hp⟩
  ihave H := (pointsTo_split_subset (Finset.subset_univ (named (F := F) (PS m d)))).1 $$ Hd
  icases H with ⟨Hd, Hr⟩
  isplitl [Hk Hr]
  · isplitl [Hk]; · iexact Hk
    iexact Hr
  isplitl [Hx]; · iexact Hx
  isplitl [Hp]; · iexact Hp
  iexact Hd

include hf in
theorem join1 :
    iprop((Sc.dLoc d ↦[Finset.univ \ named (F := F) (PS m d)]{fullShare} D0 m d) ∗ tiles fun c s => td1 m d c s)
      ⊢ (Sc.dLoc d ↦{fullShare} Sc.SCAT (F := F) (XS m d) (PS m d) (D0 m d) : sProp 𝕄) := by
  have e : (Sc.dLoc d ↦[Finset.univ \ named (F := F) (PS m d)]{fullShare} D0 m d : sProp 𝕄)
      = (Sc.dLoc d ↦[Finset.univ \ named (F := F) (PS m d)]{fullShare} Sc.SCAT (F := F) (XS m d) (PS m d) (D0 m d)) := by
    refine pointsTo_congr fun x hx => ?_
    have hx' : x ∉ named (F := F) (PS m d) := (Finset.mem_sdiff.1 hx).2
    have hn : ¬ ∃ (r : Fin 512) (l : Fin 128), x 0 = padRow (PS m d (ValueIdx.ix2 r l)) := by
      rintro ⟨r, l, hl⟩
      refine hx' (Finset.mem_biUnion.2 ⟨r, Finset.mem_univ r, ?_⟩)
      simp only [Sc.rowsAt, Finset.mem_filter, Finset.mem_univ, true_and]
      exact ⟨l, hl⟩
    unfold Sc.SCAT
    rw [dif_neg (by rintro ⟨p, hp⟩; exact hn ⟨p.1, p.2, hp⟩)]
  unfold td1
  rw [← dst_tiles m d hf, e]
  iintro ⟨Hr, Hd⟩
  iapply (pointsTo_split_subset (Finset.subset_univ (named (F := F) (PS m d)))).2
  isplitl [Hd]; · iexact Hd
  iexact Hr

/-! ## Call 2 -/

/-- A hundred and twenty-eight sub-rows of the output. -/
def band128 (r : Fin 512) : Finset S65536x2x128.Idx := Finset.univ.filter fun x => (x 0).val / 128 = r.val

theorem chunk_eq (c : Fin 2) (s j : Fin 16) : Ga.chunk (at3 c s) j = band128 (rowNo3 ((c, s), j)) := by
  ext x
  have hx0 : (x 0).val < 65536 := (x 0).isLt
  have hx1 : (x 1).val < 2 := (x 1).isLt
  have hx2 : (x 2).val < 128 := (x 2).isLt
  simp only [band128, Finset.mem_filter, Finset.mem_univ, true_and]
  show x ∈ (Ga.rS (at3 c s) (BitVec.ofNat 32 (16 * j.val)) (k3_off2_inb (at3 c s) j)).view.set ↔ (x 0).val / 128 = 32 * s.val + 16 * c.val + j.val
  constructor
  · intro h
    obtain ⟨y, -, rfl⟩ := Finset.mem_map.1 h
    have e := Ga.rS_emb (at3 c s) j y 0
    have hy : (y 0).val < 128 := (y 0).isLt
    change _ = 4096 * s.val + 2048 * c.val + 128 * j.val + (y 0).val at e
    rw [e]; omega
  · intro h
    refine Finset.mem_map.2 ⟨ValueIdx.ix3 (⟨(x 0).val % 128, Nat.mod_lt _ (by norm_num)⟩ : Fin 128) (⟨(x 1).val, hx1⟩ : Fin 2) (⟨(x 2).val, hx2⟩ : Fin 128), Finset.mem_univ _, ?_⟩
    funext a
    apply Fin.ext
    refine (Ga.rS_emb (at3 c s) j _ a).trans ?_
    match a with
    | 0 => show 4096 * s.val + 2048 * c.val + 128 * j.val + (x 0).val % 128 = (x 0).val; omega
    | 1 => show 0 + (x 1).val = (x 1).val; omega
    | 2 => show 0 + (x 2).val = (x 2).val; omega

theorem band128_disjoint (r r' : Fin 512) (h : r ≠ r') : Disjoint (band128 r) (band128 r') := by
  rw [Finset.disjoint_left]
  intro x hx hx'
  simp only [band128, Finset.mem_filter, Finset.mem_univ, true_and] at hx hx'
  exact h (Fin.ext (hx.symm.trans hx'))

theorem band128_cover : Finset.univ.biUnion band128 = Finset.univ := by
  ext x
  have hx0 : (x 0).val < 65536 := (x 0).isLt
  simp only [Finset.mem_biUnion, Finset.mem_univ, true_and, iff_true]
  exact ⟨⟨(x 0).val / 128, by omega⟩, by simp [band128]⟩

theorem out_tiles (f : Buf (Elt F) (Ga.rLoc d)) :
    (Ga.rLoc d ↦{fullShare} f : sProp 𝕄) = tiles fun c s => bigSep (Finset.univ : Finset (Fin 16)) fun j => Ga.rLoc d ↦[Ga.chunk (at3 c s) j]{fullShare} f := by
  rw [← band128_cover]
  refine (parts512 (ℓ := Ga.rLoc d) f band128 band128_disjoint).trans (tiles_congr fun c s => bigSep_congr fun j _ => ?_)
  rw [chunk_eq]

theorem deal2 :
    iprop((Ga.oLoc d ↦{fullShare} OP m d) ∗ (Ga.pLoc d ↦{left} PS m d) ∗ (Ga.rLoc d ↦{fullShare} V4 m d (dr main_v25)))
      ⊢ (tiles fun c s => go2 m d c s : sProp 𝕄) := by
  unfold go2
  rw [tiles_sep, tiles_sep, ← out_tiles]
  iintro ⟨Ho, Hp, Hr⟩
  ihave H := (deal_read (F := F) fullShare _) $$ Ho
  icases H with ⟨-, Ho⟩
  ihave H := (deal_read (F := F) left _) $$ Hp
  icases H with ⟨-, Hp⟩
  isplitl [Ho]; · iexact Ho
  isplitl [Hp]; · iexact Hp
  iexact Hr

theorem join2 : (tiles fun c s => td2 m d c s) = (Ga.rLoc d ↦{fullShare} Ga.GATH (F := F) (OP m d) (PS m d) : sProp 𝕄) := by
  unfold td2
  exact (out_tiles d (Ga.GATH (F := F) (OP m d) (PS m d))).symm

end Cert.Proof.Route

end
-- ==== Proof.Main.lean ====
/-
  The whole program's run: the TensorCore's host operations, the three SparseCore calls and the blocked product between them,
  from the launch memory to the output as a function of it.
-/
module

public import proofs.«01_k».proof.Proof.Deal
public import Idealize.ShloMosaic.Lib.Pipeline.Frame

@[expose] public section

noncomputable section

namespace Cert.Proof.Route

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)
open Idealize.ShloMosaic.StableHlo (seq after held held_congr wp_seq)
open Idealize.ShloMosaic.Pipeline (ucRefs unscopedBufs_held sub_ucRefs)

variable {F : FTy → Type} [FloatOps F]

local notation "𝕄" => MT nD τ sig (HIx 3) (Elt F) ℕ UU ℕ

/-! ## Taking a buffer out of the ones held, and putting one back -/

theorem take1 (d : Dev nD) {S : Finset (DevRef τ sig)} {r : Ref sig .tc} (h : dr r ∈ S) (W : Valuation τ sig (Elt F)) :
    (held (SparseCore.T d) S W : sProp 𝕄) = iprop(((SparseCore.T d).loc r ↦{fullShare} W (dr r)) ∗ held (SparseCore.T d) (S.erase (dr r)) W) := by
  unfold held
  conv_lhs => rw [← Finset.insert_erase h]
  exact SparseCore.bigSep_insert' (Finset.notMem_erase _ _)

theorem put1 (d : Dev nD) {S : Finset (DevRef τ sig)} {r : Ref sig .tc} (h : dr r ∈ S) (W : Valuation τ sig (Elt F)) (x : Buf (Elt F) ((SparseCore.T d).loc r)) :
    (iprop(((SparseCore.T d).loc r ↦{fullShare} x) ∗ held (SparseCore.T d) (S.erase (dr r)) W) : sProp 𝕄) = held (SparseCore.T d) S (Function.update W (dr r) x) := by
  rw [take1 d h, Function.update_self]
  congr 1
  exact held_congr _ fun b hb => (Function.update_of_ne (Finset.mem_erase.1 hb).1 _ _).symm

theorem mem_uc {r : Ref sig .tc} (h : (dr r).isScoped = false) : dr r ∈ ucRefs τ sig :=
  Finset.mem_filter.2 ⟨StableHlo.devRef_mem_tcRefs r, by rw [h]; decide⟩

/-- The buffers held after the first call (the flags set apart), after the second (the list and the tokens' sub-rows too), and after the third. -/
def S1 : Finset (DevRef τ sig) := (ucRefs τ sig).erase (dr main_arg1)
def S2 : Finset (DevRef τ sig) := S1.erase (dr main_v17)
def S3 : Finset (DevRef τ sig) := S2.erase (dr main_v18)
def S4 : Finset (DevRef τ sig) := S3.erase (dr main_v24)

theorem mem_S1 {r : Ref sig .tc} (h : (dr r).isScoped = false) (h1 : r ≠ main_arg1) : dr r ∈ S1 := Finset.mem_erase.2 ⟨dr_ne h1, mem_uc h⟩
theorem mem_S2 {r : Ref sig .tc} (h : (dr r).isScoped = false) (h1 : r ≠ main_arg1) (h2 : r ≠ main_v17) : dr r ∈ S2 := Finset.mem_erase.2 ⟨dr_ne h2, mem_S1 h h1⟩
theorem mem_S3 {r : Ref sig .tc} (h : (dr r).isScoped = false) (h1 : r ≠ main_arg1) (h2 : r ≠ main_v17) (h3 : r ≠ main_v18) : dr r ∈ S3 :=
  Finset.mem_erase.2 ⟨dr_ne h3, mem_S2 h h1 h2⟩
theorem mem_S4 {r : Ref sig .tc} (h : (dr r).isScoped = false) (h1 : r ≠ main_arg1) (h2 : r ≠ main_v17) (h3 : r ≠ main_v18) (h4 : r ≠ main_v24) : dr r ∈ S4 :=
  Finset.mem_erase.2 ⟨dr_ne h4, mem_S3 h h1 h2 h3⟩

theorem sub_erase {s S : Finset (DevRef τ sig)} {b : DevRef τ sig} (h : s ⊆ S) (hb : b ∉ s) : s ⊆ S.erase b :=
  fun _ hx => Finset.mem_erase.2 ⟨fun e => hb (e ▸ hx), h hx⟩

theorem dr_inj {x y : Ref sig .tc} : (Proc.devRef .tc x : DevRef τ sig) = Proc.devRef .tc y ↔ x = y := (Proc.devRef_injective _).eq_iff

theorem ops0_in : ∀ op ∈ (ops0 (F := F)), op.bufs ⊆ ucRefs τ sig := fun op h => sub_ucRefs op (ops0_sub op h)

theorem ops1_in : ∀ op ∈ (ops1 (F := F)), op.bufs ⊆ S1 := by
  intro op h
  refine sub_erase (sub_ucRefs op (ops1_sub op h)) ?_
  simp only [ops1, List.mem_cons, List.not_mem_nil, _root_.or_false] at h
  rcases h with rfl | rfl | rfl | rfl | rfl | rfl | rfl | rfl | rfl | rfl | rfl <;>
      (simp only [StableHlo.nullary_bufs, StableHlo.unary_bufs, StableHlo.binary_bufs, StableHlo.reshape_bufs, Finset.mem_insert, Finset.mem_singleton, dr_inj]; decide)

theorem ops2_in : ∀ op ∈ (ops2 (F := F)), op.bufs ⊆ S3 := by
  intro op h
  refine sub_erase (sub_erase (sub_erase (sub_ucRefs op (ops2_sub op h)) ?_) ?_) ?_ <;>
  · simp only [ops2, List.mem_cons, List.not_mem_nil, _root_.or_false] at h
    rcases h with rfl | rfl | rfl | rfl <;>
      (simp only [StableHlo.nullary_bufs, StableHlo.unary_bufs, StableHlo.binary_bufs, StableHlo.reshape_bufs, Finset.mem_insert, Finset.mem_singleton, dr_inj]; decide)

theorem ops3_in : ∀ op ∈ (ops3 (F := F)), op.bufs ⊆ S3 := by
  intro op h
  refine sub_erase (sub_erase (sub_erase (sub_ucRefs op (ops3_sub op h)) ?_) ?_) ?_ <;>
  · simp only [ops3, List.mem_cons, List.not_mem_nil, _root_.or_false] at h
    rcases h with rfl <;>
      (simp only [StableHlo.nullary_bufs, StableHlo.unary_bufs, StableHlo.binary_bufs, StableHlo.reshape_bufs, Finset.mem_insert, Finset.mem_singleton, dr_inj]; decide)

theorem ops4_in : ∀ op ∈ (ops4 (F := F)), op.bufs ⊆ S4 := by
  intro op h
  refine sub_erase (sub_erase (sub_erase (sub_erase (sub_ucRefs op (ops4_sub op h)) ?_) ?_) ?_) ?_ <;>
  · simp only [ops4, List.mem_cons, List.not_mem_nil, _root_.or_false] at h
    rcases h with rfl <;>
      (simp only [StableHlo.nullary_bufs, StableHlo.unary_bufs, StableHlo.binary_bufs, StableHlo.reshape_bufs, Finset.mem_insert, Finset.mem_singleton, dr_inj]; decide)

variable (m : (ℓ : Loc nD τ sig) → Buf (Elt F) ℓ) (ρ : Dev nD → PrngReg)

/-! ## The ghost state at launch -/

/-- The pipeline's configurations at the table the program prefetches. -/
abbrev cfgsAt (d : Dev nD) := Pipeline.pin (pcfgs (F := F)) (Mm.adm (NB m d))

/-- What the blocked product's region takes of the ghost state. -/
def G (d : Dev nD) : sProp 𝕄 := iprop(Pipeline.cellsGhost (cfgsAt m d) Mm.EP 0 d ∗ Pipeline.toksInit (cfgsAt m d) Mm.EP 0 d)

def u₀ : UU := (initOf (K (F := F)).hsCells (K (F := F)).hsToks,
  (initOf (Pipeline.cells (cfgsAt m 0) (cellOf_inj (Mm.adm (NB m 0)))) (Pipeline.launchToks (cfgsAt m 0) (cellOf_inj (Mm.adm (NB m 0)))), 1))

theorem hu₀ : (ownU (u₀ m) : sProp 𝕄) ⊢ |={Set.univ}=> iprop(BI.own (EH (initOf (K (F := F)).hsCells (K (F := F)).hsToks)) ∗ (bigSep Finset.univ fun d : Dev nD => G m d)
    ∗ bigSep Finset.univ fun thr : Thread nD τ => bigSep Finset.univ fun q : Fin 3 => (P m).x q thr) := by
  unfold u₀
  iintro Hu
  ihave H := (ownU_pair _ _) $$ Hu
  icases H with ⟨HH, HP⟩
  ihave HP := (show (BI.own (embR (initOf (Pipeline.cells (cfgsAt m 0) (cellOf_inj (Mm.adm (NB m 0)))) (Pipeline.launchToks (cfgsAt m 0) (cellOf_inj (Mm.adm (NB m 0)))), 1)) : sProp 𝕄)
    ⊢ BI.own (Mm.EP (initOf (Pipeline.cells (cfgsAt m 0) (cellOf_inj (Mm.adm (NB m 0)))) (Pipeline.launchToks (cfgsAt m 0) (cellOf_inj (Mm.adm (NB m 0)))))) from .rfl) $$ HP
  imod (Pipeline.fund_ghost (cfgsAt m 0) Mm.EP (cellOf_inj (Mm.adm (NB m 0)))) $$ HP with ⟨HC, HT⟩
  imodintro
  isplitl [HH]; · iexact HH
  isplitl [HC HT]
  · have hs : (bigSep Finset.univ fun d : Dev nD => G m d) = (G m 0 : sProp 𝕄) := bigSep_univ_of_subsingleton (0 : Fin 1)
    rw [hs]
    ihave HC := (show _ ⊢ (Pipeline.cellsGhost (cfgsAt m 0) Mm.EP 0 0 : sProp 𝕄) from Entails.of_eq ((bigSep_univ_of_subsingleton (0 : Fin 1)).trans (bigSep_univ_of_subsingleton (0 : Fin 1)))) $$ HC
    ihave HT := (show _ ⊢ (Pipeline.toksInit (cfgsAt m 0) Mm.EP 0 0 : sProp 𝕄) from Entails.of_eq ((bigSep_univ_of_subsingleton (0 : Fin 1)).trans (bigSep_univ_of_subsingleton (0 : Fin 1)))) $$ HT
    unfold G
    isplitl [HC]; · iexact HC
    iexact HT
  rw [show (bigSep Finset.univ fun thr : Thread nD τ => bigSep Finset.univ fun q : Fin 3 => (P (F := F) m).x q thr) = bigSep Finset.univ fun _ => iprop(emp) from
    bigSep_congr fun _ _ => bigSep_emp_const _]
  rw [show (bigSep Finset.univ fun _ : Thread nD τ => (iprop(emp) : sProp 𝕄)) = iprop(emp) from bigSep_emp_const _]
  iempintro

/-! ## The TensorCore's program -/

theorem st_eq0 (d : Dev nD) : (bigSep Finset.univ fun c : Fin ((K (F := F)).nCore 0) => (P m).st 0 d c) = (tiles fun c s => go0 m d c s : sProp 𝕄) := rfl
theorem st_eq1 (d : Dev nD) : (bigSep Finset.univ fun c : Fin ((K (F := F)).nCore 1) => (P m).st 1 d c) = (tiles fun c s => go1 m d c s : sProp 𝕄) := rfl
theorem st_eq2 (d : Dev nD) : (bigSep Finset.univ fun c : Fin ((K (F := F)).nCore 2) => (P m).st 2 d c) = (tiles fun c s => go2 m d c s : sProp 𝕄) := rfl
theorem dn_eq0 (d : Dev nD) : (bigSep Finset.univ fun c : Fin ((K (F := F)).nCore 0) => (P m).dn 0 d c) = (tiles fun c s => td0 m d c s : sProp 𝕄) := rfl
theorem dn_eq1 (d : Dev nD) : (bigSep Finset.univ fun c : Fin ((K (F := F)).nCore 1) => (P m).dn 1 d c) = (tiles fun c s => td1 m d c s : sProp 𝕄) := rfl
theorem dn_eq2 (d : Dev nD) : (bigSep Finset.univ fun c : Fin ((K (F := F)).nCore 2) => (P m).dn 2 d c) = (tiles fun c s => td2 m d c s : sProp 𝕄) := rfl

/-- What a call is sent from the arrays, and what it gives back to them. -/
theorem send0 (d : Dev nD) : (iprop((Ro.fLoc d ↦{fullShare} FL m d) ∗ (Ro.pLoc d ↦{fullShare} V1 m d (dr main_v8_0)) ∗ (Ro.nLoc d ↦{fullShare} V1 m d (dr main_v8_1))) : sProp 𝕄)
    ⊢ iprop((Ro.fLoc d ↦{shareDrop fullShare 2} FL m d) ∗ (bigSep Finset.univ fun c : Fin ((K (F := F)).nCore 0) => (P m).st 0 d c)) := by
  rw [st_eq0]; exact deal0 m d

theorem back0 (d : Dev nD) : (bigSep Finset.univ fun c : Fin ((K (F := F)).nCore 0) => (P m).dn 0 d c) ⊢ (iprop((Ro.pLoc d ↦{fullShare} Ro.POS (FL m d)) ∗ (Ro.nLoc d ↦{fullShare} Ro.NBLK (FL m d))) : sProp 𝕄) := by
  rw [dn_eq0, join0]

theorem send1 (d : Dev nD) (hf : Flags (FL m d)) : (iprop((Sc.xLoc d ↦{fullShare} XS m d) ∗ (Sc.pLoc d ↦{fullShare} PS m d) ∗ (Sc.dLoc d ↦{fullShare} D0 m d)) : sProp 𝕄)
    ⊢ iprop(((Sc.pLoc d ↦{left} PS m d) ∗ (Sc.dLoc d ↦[Finset.univ \ named (F := F) (PS m d)]{fullShare} D0 m d)) ∗ (bigSep Finset.univ fun c : Fin ((K (F := F)).nCore 1) => (P m).st 1 d c)) := by
  rw [st_eq1]; exact deal1 m d hf

theorem back1 (d : Dev nD) (hf : Flags (FL m d)) : iprop((Sc.dLoc d ↦[Finset.univ \ named (F := F) (PS m d)]{fullShare} D0 m d) ∗ (bigSep Finset.univ fun c : Fin ((K (F := F)).nCore 1) => (P m).dn 1 d c))
    ⊢ (iprop(Sc.dLoc d ↦{fullShare} Sc.SCAT (F := F) (XS m d) (PS m d) (D0 m d)) : sProp 𝕄) := by
  rw [dn_eq1]; exact join1 m d hf

theorem send2 (d : Dev nD) : (iprop((Ga.oLoc d ↦{fullShare} OP m d) ∗ (Ga.pLoc d ↦{left} PS m d) ∗ (Ga.rLoc d ↦{fullShare} V4 m d (dr main_v25))) : sProp 𝕄) ⊢ (bigSep Finset.univ fun c : Fin ((K (F := F)).nCore 2) => (P m).st 2 d c) := by
  rw [st_eq2]; exact deal2 m d

theorem back2 (d : Dev nD) : (bigSep Finset.univ fun c : Fin ((K (F := F)).nCore 2) => (P m).dn 2 d c) ⊢ (iprop(Ga.rLoc d ↦{fullShare} Ga.GATH (F := F) (OP m d) (PS m d)) : sProp 𝕄) := by
  rw [dn_eq2, join2]

/-- What the program leaves: a share of the flags, as launched, and the other buffers at the last valuation. -/
def FIN (d : Dev nD) : sProp 𝕄 := iprop((Ro.fLoc d ↦{shareDrop fullShare 2} FL m d) ∗ held (SparseCore.T d) S4 (V5 m d))

/-- Before the first call: the flags, the positions' and the number of blocks' arrays, and the rest. -/
theorem open0 (d : Dev nD) : (held (SparseCore.T d) (ucRefs τ sig) (V1 m d) : sProp 𝕄)
    ⊢ iprop(((Ro.fLoc d ↦{fullShare} FL m d) ∗ (Ro.pLoc d ↦{fullShare} V1 m d (dr main_v8_0)) ∗ (Ro.nLoc d ↦{fullShare} V1 m d (dr main_v8_1)))
      ∗ held (SparseCore.T d) ((S1.erase (dr main_v8_1)).erase (dr main_v8_0)) (V1 m d)) := by
  rw [take1 d (r := main_arg1) (mem_uc rfl), V1_flags, show (ucRefs τ sig).erase (dr main_arg1) = S1 from rfl, take1 d (r := main_v8_1) (mem_S1 rfl (by decide)),
    take1 d (r := main_v8_0) (Finset.mem_erase.2 ⟨dr_ne (by decide), mem_S1 rfl (by decide)⟩)]
  iintro ⟨Hf, Hn, Hp, H⟩
  isplitr [H]
  · isplitl [Hf]; · iexact Hf
    isplitl [Hp]; · iexact Hp
    iexact Hn
  iexact H

theorem close0 (d : Dev nD) : (iprop((Ro.pLoc d ↦{fullShare} Ro.POS (FL m d)) ∗ (Ro.nLoc d ↦{fullShare} Ro.NBLK (FL m d))
      ∗ held (SparseCore.T d) ((S1.erase (dr main_v8_1)).erase (dr main_v8_0)) (V1 m d)) : sProp 𝕄) ⊢ held (SparseCore.T d) S1 (V1c m d) := by
  unfold V1c
  rw [← put1 d (r := main_v8_1) (mem_S1 rfl (by decide)), ← put1 d (r := main_v8_0) (Finset.mem_erase.2 ⟨dr_ne (by decide), mem_S1 rfl (by decide)⟩)]
  iintro ⟨Hp, Hn, H⟩
  isplitl [Hn]; · iexact Hn
  isplitl [Hp]; · iexact Hp
  iexact H

/-- Before the second call: the tokens' sub-rows, the list, the padded array, and the rest. -/
theorem open1 (d : Dev nD) : (held (SparseCore.T d) S1 (V2 m d) : sProp 𝕄)
    ⊢ iprop(((Sc.xLoc d ↦{fullShare} XS m d) ∗ (Sc.pLoc d ↦{fullShare} PS m d) ∗ (Sc.dLoc d ↦{fullShare} D0 m d)) ∗ held (SparseCore.T d) (S3.erase (dr main_v19)) (V2 m d)) := by
  rw [take1 d (r := main_v17) (mem_S1 rfl (by decide)), show S1.erase (dr main_v17) = S2 from rfl, take1 d (r := main_v18) (mem_S2 rfl (by decide) (by decide)),
    show S2.erase (dr main_v18) = S3 from rfl, take1 d (r := main_v19) (mem_S3 rfl (by decide) (by decide) (by decide))]
  iintro ⟨Hp, Hx, Hd, H⟩
  isplitr [H]
  · isplitl [Hx]; · iexact Hx
    isplitl [Hp]; · iexact Hp
    iexact Hd
  iexact H

theorem close1 (d : Dev nD) : (iprop((Sc.dLoc d ↦{fullShare} Sc.SCAT (F := F) (XS m d) (PS m d) (D0 m d)) ∗ held (SparseCore.T d) (S3.erase (dr main_v19)) (V2 m d)) : sProp 𝕄)
    ⊢ held (SparseCore.T d) S3 (V2c m d) := by
  unfold V2c
  rw [← put1 d (r := main_v19) (mem_S3 rfl (by decide) (by decide) (by decide))]

/-- The buffers held beside the blocked product's five. -/
def R3 : Finset (DevRef τ sig) := ((((S3.erase (dr main_v23)).erase (dr main_v20)).erase (dr main_v3)).erase (dr main_v7)).erase (dr main_v22)

theorem five (d : Dev nD) (W : Valuation τ sig (Elt F)) : (held (SparseCore.T d) (S3.erase (dr main_v23)) W : sProp 𝕄)
    = iprop(((SparseCore.T d).loc main_v20 ↦{fullShare} W (dr main_v20)) ∗ ((SparseCore.T d).loc main_v3 ↦{fullShare} W (dr main_v3)) ∗ ((SparseCore.T d).loc main_v7 ↦{fullShare} W (dr main_v7))
      ∗ ((SparseCore.T d).loc main_v22 ↦{fullShare} W (dr main_v22)) ∗ held (SparseCore.T d) R3 W) := by
  rw [take1 d (r := main_v20) (S := S3.erase (dr main_v23)) (Finset.mem_erase.2 ⟨dr_ne (by decide), mem_S3 rfl (by decide) (by decide) (by decide)⟩),
    take1 d (r := main_v3) (S := (S3.erase (dr main_v23)).erase (dr main_v20)) (Finset.mem_erase.2 ⟨dr_ne (by decide), Finset.mem_erase.2 ⟨dr_ne (by decide), mem_S3 rfl (by decide) (by decide) (by decide)⟩⟩),
    take1 d (r := main_v7) (S := ((S3.erase (dr main_v23)).erase (dr main_v20)).erase (dr main_v3))
      (Finset.mem_erase.2 ⟨dr_ne (by decide), Finset.mem_erase.2 ⟨dr_ne (by decide), Finset.mem_erase.2 ⟨dr_ne (by decide), mem_S3 rfl (by decide) (by decide) (by decide)⟩⟩⟩),
    take1 d (r := main_v22) (S := (((S3.erase (dr main_v23)).erase (dr main_v20)).erase (dr main_v3)).erase (dr main_v7))
      (Finset.mem_erase.2 ⟨dr_ne (by decide), Finset.mem_erase.2 ⟨dr_ne (by decide), Finset.mem_erase.2 ⟨dr_ne (by decide), Finset.mem_erase.2 ⟨dr_ne (by decide), mem_S3 rfl (by decide) (by decide) (by decide)⟩⟩⟩⟩)]
  rfl

theorem openM (d : Dev nD) : (held (SparseCore.T d) S3 (V3 m d) : sProp 𝕄)
    ⊢ iprop(Mm.bufs (NB m d) (XP m d) (WT m d) (BT m d) d (V3 m d (dr main_v23)) ∗ held (SparseCore.T d) R3 (V3 m d)) := by
  rw [take1 d (r := main_v23) (mem_S3 rfl (by decide) (by decide) (by decide)), five]
  unfold Mm.bufs
  iintro ⟨Ho, Hx, Hw, Hb, Hn, H⟩
  isplitr [H]
  · isplitl [Hx]; · iexact Hx
    isplitl [Hw]; · iexact Hw
    isplitl [Hb]; · iexact Hb
    isplitl [Hn]; · iexact Hn
    iexact Ho
  iexact H

theorem closeM (d : Dev nD) :
    (iprop(Mm.bufs (NB m d) (XP m d) (WT m d) (BT m d) d (Mm.OUTP (F := F) (NB m d) (XP m d) (WT m d) (BT m d)) ∗ held (SparseCore.T d) R3 (V3 m d)) : sProp 𝕄)
    ⊢ held (SparseCore.T d) S3 (V3c m d) := by
  unfold V3c
  rw [← put1 d (r := main_v23) (mem_S3 rfl (by decide) (by decide) (by decide)), five]
  unfold Mm.bufs
  iintro ⟨⟨Hx, Hw, Hb, Hn, Ho⟩, H⟩
  isplitl [Ho]; · iexact Ho
  isplitl [Hx]; · iexact Hx
  isplitl [Hw]; · iexact Hw
  isplitl [Hb]; · iexact Hb
  isplitl [Hn]; · iexact Hn
  iexact H

/-- Before the third call: the product's sub-rows, the output's, and the rest. -/
theorem open2 (d : Dev nD) : (held (SparseCore.T d) S3 (V4 m d) : sProp 𝕄)
    ⊢ iprop((Ga.oLoc d ↦{fullShare} OP m d) ∗ (Ga.rLoc d ↦{fullShare} V4 m d (dr main_v25)) ∗ held (SparseCore.T d) (S4.erase (dr main_v25)) (V4 m d)) := by
  rw [take1 d (r := main_v24) (mem_S3 rfl (by decide) (by decide) (by decide)), show S3.erase (dr main_v24) = S4 from rfl,
    take1 d (r := main_v25) (mem_S4 rfl (by decide) (by decide) (by decide) (by decide))]
  exact .rfl

theorem close2 (d : Dev nD) : (iprop((Ga.rLoc d ↦{fullShare} Ga.GATH (F := F) (OP m d) (PS m d)) ∗ held (SparseCore.T d) (S4.erase (dr main_v25)) (V4 m d)) : sProp 𝕄)
    ⊢ held (SparseCore.T d) S4 (V4c m d) := by
  unfold V4c
  rw [← put1 d (r := main_v25) (mem_S4 rfl (by decide) (by decide) (by decide) (by decide))]

/-- The launch's state before the region holds what the region is owed, and takes it back after. -/
theorem tcSt_owing (d : Dev nD) : ((K (F := F)).tcSt EH d ((1 : Fin 3).val + 1) : sProp 𝕄) ⊢ iprop(Mm.owing d ∗ (Mm.owing (F := F) d -∗ (K (F := F)).tcSt EH d 2)) := by
  have h : ((K (F := F)).tcSt EH d 2 : sProp 𝕄) = iprop(Mm.owing (F := F) d ∗ _) := rfl
  rw [show (1 : Fin 3).val + 1 = 2 from rfl, h]
  iintro ⟨HO, H⟩
  isplitl [HO]; · iexact HO
  iintro HO
  isplitl [HO]; · iexact HO
  iexact H

/-- One run of array operations, between two named valuations. -/
theorem run_ops (d : Dev nD) (S : Finset (DevRef τ sig)) (ops : List (HloOp τ sig (Elt F))) (hS : ∀ op ∈ ops, op.bufs ⊆ S) (hF : ∀ op ∈ ops, op.fresh = ∅)
    (V V' : Valuation τ sig (Elt F)) (h : after ops V = V') (k : PUnit → Prog (TpuEff nD τ sig (Elt F) (SparseCore.Sig (Pipeline.Sig Λ₀ (Fin 1) fun p => (pcfgs (F := F) p).Adm) 3) .tc) PUnit) (Q : PUnit → sProp 𝕄) :
    (iprop(boundary (SparseCore.T d) ∗ held (SparseCore.T d) S V) : sProp 𝕄)
      ⊢ iprop(((boundary (SparseCore.T d) ∗ held (SparseCore.T d) S V') -∗ wp frame (wpE ((K (F := F)).defs (D (F := F))) 𝒱 (SparseCore.T d) none) Set.univ (k ⟨⟩) Q)
        -∗ wp frame (wpE ((K (F := F)).defs (D (F := F))) 𝒱 (SparseCore.T d) none) Set.univ (seq ops >>= k) Q) := by
  subst h
  exact wp_seq 𝒱 none Set.univ d S k ops hS hF V

variable (hf : ∀ d, Flags (FL m d))

include hf in
theorem hmain (κ : GSem nD τ sig → ℕ) (d : Dev nD) :
    iprop((K (F := F)).ctx EH (P m) κ ∗ (K (F := F)).tcSt EH d 0 ∗ (K (F := F)).tcRes m ρ d ∗ G m d)
      ⊢ wp frame (wpE ((K (F := F)).defs (D (F := F))) 𝒱 (SparseCore.T d) none) Set.univ (main d)
          fun _ => iprop((K (F := F)).tcSt EH d 3 ∗ FIN m d ∗ (K (F := F)).tcEnd d) := by
  unfold SparseCore.Cfg.tcRes SparseCore.Cfg.tcEnd G
  rw [show (unscopedBufs d (fun b => m ((SparseCore.T d).loc b)) : sProp 𝕄) = held (SparseCore.T d) (ucRefs τ sig) (V0 m d) from unscopedBufs_held d (V0 m d), main_eq]
  iintro ⟨#Hctx, Hst, ⟨Hb, Hh, Hts, -⟩, ⟨Hcg, Htk⟩⟩
  iapply (run_ops d (ucRefs τ sig) ops0 ops0_in ops0_fresh (V0 m d) (V1 m d) rfl _ _) $$ [Hb Hh]
  · isplitl [Hb]; · iexact Hb
    iexact Hh
  iintro ⟨Hb, Hh⟩
  ihave Hh := (open0 m d) $$ Hh
  icases Hh with ⟨Hops, Hh⟩
  ihave Hops := (send0 m d) $$ Hops
  icases Hops with ⟨Hfl, Hgo⟩
  rw [wp_bind]
  iapply ((K (F := F)).wp_run (D (F := F)) 𝒱 (EH := EH) (P := P m) κ d 0) $$ [Hst Hgo Hb Hh Hts Hcg Htk Hfl]
  isplitr; · iexact Hctx
  isplitl [Hst]; · iexact Hst
  isplitl [Hgo]; · iexact Hgo
  iintro ⟨Hst, Hdn⟩
  ihave Hdn := (back0 m d) $$ Hdn
  icases Hdn with ⟨Hp, Hn⟩
  ihave Hh := (close0 m d) $$ [Hp Hn Hh]
  · isplitl [Hp]; · iexact Hp
    isplitl [Hn]; · iexact Hn
    iexact Hh
  iapply (run_ops d S1 ops1 ops1_in ops1_fresh (V1c m d) (V2 m d) rfl _ _) $$ [Hb Hh]
  · isplitl [Hb]; · iexact Hb
    iexact Hh
  iintro ⟨Hb, Hh⟩
  ihave Hh := (open1 m d) $$ Hh
  icases Hh with ⟨Hops, Hh⟩
  ihave Hops := (send1 m d (hf d)) $$ Hops
  icases Hops with ⟨⟨Hl, Hrest⟩, Hgo⟩
  rw [wp_bind]
  iapply ((K (F := F)).wp_run (D (F := F)) 𝒱 (EH := EH) (P := P m) κ d 1) $$ [Hst Hgo Hb Hh Hts Hcg Htk Hfl Hl Hrest]
  isplitr; · iexact Hctx
  isplitl [Hst]; · iexact Hst
  isplitl [Hgo]; · iexact Hgo
  iintro ⟨Hst, Hdn⟩
  ihave Hd := (back1 m d (hf d)) $$ [Hrest Hdn]
  · isplitl [Hrest]; · iexact Hrest
    iexact Hdn
  ihave Hh := (close1 m d) $$ [Hd Hh]
  · isplitl [Hd]; · iexact Hd
    iexact Hh
  iapply (run_ops d S3 ops2 ops2_in ops2_fresh (V2c m d) (V3 m d) rfl _ _) $$ [Hb Hh]
  · isplitl [Hb]; · iexact Hb
    iexact Hh
  iintro ⟨Hb, Hh⟩
  ihave Hh := (openM m d) $$ Hh
  icases Hh with ⟨Hbufs, Hh⟩
  ihave Hst := (tcSt_owing d) $$ Hst
  icases Hst with ⟨Ho, Hst⟩
  ihave #Hlev := (SparseCore.Cfg.ctx_levAts κ) $$ Hctx
  rw [wp_bind]
  iapply (Mm.region_wp (NB m d) (XP m d) (WT m d) (BT m d) (V3 m d (dr main_v23)) d _) $$ [Hst Hb Hbufs Ho Hh Hts Hcg Htk Hfl Hl]
  isplitl [Hst Hh Hts Hfl Hl]
  · iintro ⟨Hb, Hbufs, Ho⟩
    ihave Hst := Hst $$ Ho
    ihave Hh := (closeM m d) $$ [Hbufs Hh]
    · isplitl [Hbufs]; · iexact Hbufs
      iexact Hh
    iapply (run_ops d S3 ops3 ops3_in ops3_fresh (V3c m d) (V4 m d) rfl _ _) $$ [Hb Hh]
    · isplitl [Hb]; · iexact Hb
      iexact Hh
    iintro ⟨Hb, Hh⟩
    ihave Hh := (open2 m d) $$ Hh
    icases Hh with ⟨Ho, Hr, Hh⟩
    ihave Hgo := (send2 m d) $$ [Ho Hl Hr]
    · isplitl [Ho]; · iexact Ho
      isplitl [Hl]; · iexact Hl
      iexact Hr
    rw [wp_bind]
    iapply ((K (F := F)).wp_run (D (F := F)) 𝒱 (EH := EH) (P := P m) κ d 2) $$ [Hst Hgo Hb Hh Hts Hfl]
    isplitr; · iexact Hctx
    isplitl [Hst]; · iexact Hst
    isplitl [Hgo]; · iexact Hgo
    iintro ⟨Hst, Hdn⟩
    ihave Hdn := (back2 m d) $$ Hdn
    ihave Hh := (close2 m d) $$ [Hdn Hh]
    · isplitl [Hdn]; · iexact Hdn
      iexact Hh
    iapply (run_ops d S4 ops4 ops4_in ops4_fresh (V4c m d) (V5 m d) rfl _ _) $$ [Hb Hh]
    · isplitl [Hb]; · iexact Hb
      iexact Hh
    iintro ⟨Hb, Hh⟩
    rw [wp_pure]; imodintro
    isplitl [Hst]; · iexact Hst
    unfold FIN
    isplitl [Hfl Hh]
    · isplitl [Hfl]; · iexact Hfl
      iexact Hh
    isplitl [Hb]; · iexact Hb
    iexact Hts
  isplitl [Hb]; · iexact Hb
  isplitl [Hbufs Ho]
  · isplitl [Hbufs]; · iexact Hbufs
    iexact Ho
  isplitr; · iexact Hlev
  isplitl [Hcg]; · iexact Hcg
  iexact Htk

/-! ## The run -/

/-- What the claims read of device `d`'s final state: the output, and the arguments as launched. -/
def fq (d : Dev nD) (s' : Phys nD τ sig (Elt F)) : Prop :=
  s'.mem.mem ((SparseCore.T d).loc main_v26) = V5 m d (dr main_v26)
    ∧ ∀ r ∈ [main_arg0, main_arg1, main_arg2, main_arg3, main_arg4, main_arg5], s'.mem.mem ((SparseCore.T d).loc r) = m ((SparseCore.T d).loc r)

theorem hfin (d : Dev nD) (s' : Phys nD τ sig (Elt F)) : iprop(FIN m d ∗ SI s') ⊢ (⌜fq m d s'⌝ : sProp 𝕄) := by
  unfold FIN
  iintro ⟨⟨Hf, Hh⟩, HSI⟩
  ihave H := (persistent_entails_right (SI_pointsTo_agree (st := s') (ℓ := Ro.fLoc d) (I := Finset.univ) (q := shareDrop fullShare 2) (f := FL m d))) $$ [HSI Hf]
  · isplitl [HSI]; · iexact HSI
    iexact Hf
  icases H with ⟨%hfl, HSI, -⟩
  unfold held
  ihave H := (SI_pointsTo_bufs_agree (st := s') (qs := fun _ => fullShare) (F := V5 m d) S4) $$ [HSI Hh]
  · isplitl [HSI]; · iexact HSI
    iexact Hh
  icases H with %h
  ipureintro
  refine ⟨h _ (mem_S4 rfl (by decide) (by decide) (by decide) (by decide)), fun r hr => ?_⟩
  have ha := V5_arg m d hr
  simp only [List.mem_cons, List.not_mem_nil, _root_.or_false] at hr
  rcases hr with rfl | rfl | rfl | rfl | rfl | rfl
  · exact (h _ (mem_S4 rfl (by decide) (by decide) (by decide) (by decide))).trans ha
  · exact funext fun i => hfl i (Finset.mem_univ i)
  · exact (h _ (mem_S4 rfl (by decide) (by decide) (by decide) (by decide))).trans ha
  · exact (h _ (mem_S4 rfl (by decide) (by decide) (by decide) (by decide))).trans ha
  · exact (h _ (mem_S4 rfl (by decide) (by decide) (by decide) (by decide))).trans ha
  · exact (h _ (mem_S4 rfl (by decide) (by decide) (by decide) (by decide))).trans ha

/-- The output and the arguments at the end of a run, and every semaphore at zero. -/
def QC : PUnit × MemSt nD τ sig (Elt F) → Prop := fun r =>
  (∀ c : Dev nD, r.2.mem ((SparseCore.T c).loc main_v26) = V5 m c (dr main_v26)
    ∧ ∀ a ∈ [main_arg0, main_arg1, main_arg2, main_arg3, main_arg4, main_arg5], r.2.mem ((SparseCore.T c).loc a) = m ((SparseCore.T c).loc a)) ∧ r.2.sem = fun _ => 0

include hf in
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq)
    (fun q _ => match q with | 0 => tileObl0 m hf | 1 => tileObl1 m hf | 2 => tileObl2 m hf)
    (fun q _ => match q with
      | 0 => SparseCore.Cfg.VecSplit.of_plain (vecSplit0 m) | 1 => SparseCore.Cfg.VecSplit.of_plain (vecSplit1 m) | 2 => SparseCore.Cfg.VecSplit.of_plain (vecSplit2 m))
    m ρ main (fun d => G m d) (FIN m) (u₀ m) (sep_elim_left.trans (hu₀ m)) (hmain m ρ hf) (fq m) (hfin m) (QC m) (fun _ h hz => ⟨h, hz⟩)

end Cert.Proof.Route

end
-- ==== Proof.Same.lean ====
module

public import proofs.«01_k».proof.Defs
public import proofs.«01_k».proof.Proof.Gen.Kernel
public import proofs.«01_k».proof.Proof.Gen.KernelIdeal

@[expose] public section

/-!
# One text

The kernel's program and the one read over the reals are the same text: their bodies, their host operations and their threads
are equal at the machine's floats.
-/

set_option maxRecDepth 16384

noncomputable section

namespace Cert.Proof.Route

open Idealize.ShloMosaic Idealize.ShloMosaic.TcCoe Idealize.SL.Sem

set_option maxHeartbeats 1000000 in
/-- The two programs run the same body at each label. -/
theorem bodies_at (p : Proc Cert.KernelIdeal.τ) (l : Fin 4) (a) : @Cert.Kernel.defs₀ Bits _ _ p l a = @Cert.KernelIdeal.defs₀ Bits _ _ p l a := by
  match p, l, a with
  | .scVector c s, 0, a => rfl
  | .scVector c s, 1, a => rfl
  | .scVector c s, 2, a => rfl
  | .scVector c s, 3, a => rfl
  | .tc, 0, a => rfl
  | .tc, 1, a => rfl
  | .tc, 2, (t, s) => rfl
  | .tc, 3, a => rfl
  | .scScalar c, 0, a => rfl
  | .scScalar c, 1, a => rfl
  | .scScalar c, 2, a => rfl
  | .scScalar c, 3, a => rfl

theorem bodies_same : Cert.Kernel.defs₀ (F := Bits) = Cert.KernelIdeal.defs₀ (F := Bits) := by
  funext p l a
  exact bodies_at p l a

set_option maxHeartbeats 1000000 in
/-- The two programs' body tables are equal. -/
theorem defs_same : Cert.Kernel.defs (F := Bits) = Cert.KernelIdeal.defs (F := Bits) := by
  refine Eq.trans (b := (Cert.KernelIdeal.sc (F := Bits)).defs (Pipeline.defs (Cert.KernelIdeal.pcfgs (F := Bits)) (Cert.Kernel.defs₀ (F := Bits)))) rfl ?_
  rw [bodies_same]
  rfl

set_option maxHeartbeats 4000000 in
/-- The two programs' TensorCore text is the same. -/
theorem main_same (d : Dev Cert.KernelIdeal.nD) : Cert.Kernel.main (F := Bits) d = Cert.KernelIdeal.main (F := Bits) d := by
  unfold Cert.Kernel.main Cert.KernelIdeal.main
  rfl

set_option maxHeartbeats 1000000 in
/-- The two programs' threads are the same. -/
theorem threads_same : Cert.Kernel.threads (F := Bits) = Cert.KernelIdeal.threads (F := Bits) := by
  refine Eq.trans (b := (Cert.KernelIdeal.sc (F := Bits)).threads (Cert.Kernel.main (F := Bits))) rfl ?_
  rw [show Cert.Kernel.main (F := Bits) = Cert.KernelIdeal.main (F := Bits) from funext main_same]

end Cert.Proof.Route

end
-- ==== Proof.Frames.lean ====
module

public import proofs.«01_k».proof.Defs
public import proofs.«01_k».proof.Proof.Main
public import proofs.«01_k».proof.Proof.Same
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_flags01

@[expose] public section

/-!
# The frames

The kernel's program, at any float values, runs to completion with its arguments unchanged and every semaphore at zero, when
every flag is zero or one; the reference's does so from any memory.
-/

noncomputable section

namespace Cert.Proof.Route

open Idealize.ShloMosaic Idealize.ShloMosaic.TcCoe Idealize.SL.Sem

/-- A word which is, as a signed number, at least zero and at most one is zero or one. -/
theorem word_flag (v : BitVec 32) (e : IntOp.andi (IntOp.cmpi .sge v 0#32) (IntOp.cmpi .sle v 1#32) = 1#1) : v = 0#32 ∨ v = 1#32 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have hv : v.toNat ≤ 1 := by
    simp only [IntOp.cmpi, andi_ofBool, ofBool_eq_one, Bool.and_eq_true, BitVec.sle_eq_decide,
      decide_eq_true_eq, BitVec.toInt_eq_toNat_cond, BitVec.toNat_ofNat, Nat.reducePow, Nat.reduceMod] at e
    omega
  rcases (by omega : v.toNat = 0 ∨ v.toNat = 1) with h | h
  · exact .inl (BitVec.eq_of_toNat_eq (by simpa using h))
  · exact .inr (BitVec.eq_of_toNat_eq (by simpa using h))

/-- The precondition, at every device, says that every flag is zero or one. -/
theorem flags_of_pre {F : FTy → Type} [FloatOps F] (a0 : FVec F Cert.Pre_flags01.S8192x2048 .f32) (a1 : IVec Cert.Pre_flags01.S8192 32) (a2 : FVec F Cert.Pre_flags01.S2048x2048 .f32)
    (a3 : FVec F Cert.Pre_flags01.S2048 .f32) (a4 : FVec F Cert.Pre_flags01.S2048x2048 .f32) (a5 : FVec F Cert.Pre_flags01.S2048 .f32)
    (h : Cert.Pre_flags01.fn a0 a1 a2 a3 a4 a5 = fun _ => 1#1) : Flags a1 := fun j => by
  have e := congrFun h j
  simp only [Cert.Pre_flags01.fn, andi, cmpi, broadcastInDim, constantI] at e
  exact word_flag _ e

/-- The six arguments as launched, and every semaphore at zero. -/
def kept {F : FTy → Type} (m : (ℓ : Loc Cert.KernelIdeal.nD Cert.KernelIdeal.τ Cert.KernelIdeal.sig) → Buf (Elt F) ℓ) (r : PUnit × MemSt Cert.KernelIdeal.nD Cert.KernelIdeal.τ Cert.KernelIdeal.sig (Elt F)) : Prop :=
  (∀ c : Dev Cert.KernelIdeal.nD, r.2.mem ((SparseCore.T c).loc Cert.KernelIdeal.main_arg0) = m ((SparseCore.T c).loc Cert.KernelIdeal.main_arg0)
    ∧ r.2.mem ((SparseCore.T c).loc Cert.KernelIdeal.main_arg1) = m ((SparseCore.T c).loc Cert.KernelIdeal.main_arg1)
    ∧ r.2.mem ((SparseCore.T c).loc Cert.KernelIdeal.main_arg2) = m ((SparseCore.T c).loc Cert.KernelIdeal.main_arg2)
    ∧ r.2.mem ((SparseCore.T c).loc Cert.KernelIdeal.main_arg3) = m ((SparseCore.T c).loc Cert.KernelIdeal.main_arg3)
    ∧ r.2.mem ((SparseCore.T c).loc Cert.KernelIdeal.main_arg4) = m ((SparseCore.T c).loc Cert.KernelIdeal.main_arg4)
    ∧ r.2.mem ((SparseCore.T c).loc Cert.KernelIdeal.main_arg5) = m ((SparseCore.T c).loc Cert.KernelIdeal.main_arg5)) ∧ r.2.sem = fun _ => 0

set_option maxHeartbeats 1000000 in
/-- The kernel's frame, as the machine runs it. -/
theorem frame_kernel : Cert.quiescent_Kernel := fun m ρ h => by
  have r := (θ_run (Cert.KernelIdeal.defs (F := Bits)) (Cert.KernelIdeal.threads (F := Bits)) _).mono
    (fun r h => (⟨fun c => ⟨(h.1 c).2 Cert.KernelIdeal.main_arg0 (by simp), (h.1 c).2 Cert.KernelIdeal.main_arg1 (by simp), (h.1 c).2 Cert.KernelIdeal.main_arg2 (by simp),
      (h.1 c).2 Cert.KernelIdeal.main_arg3 (by simp), (h.1 c).2 Cert.KernelIdeal.main_arg4 (by simp), (h.1 c).2 Cert.KernelIdeal.main_arg5 (by simp)⟩, h.2⟩ : kept m r))
    (run_main (F := Bits) m ρ fun d => flags_of_pre _ _ _ _ _ _ (h d))
  rw [← defs_same, ← threads_same] at r
  exact r

/-- The kernel's frame, over the reals. -/
theorem frame_ideal : Cert.quiescent_KernelIdeal := fun m ρ h =>
  (θ_run (Cert.KernelIdeal.defs (F := Ideal)) _ _).mono
    (fun _ h => ⟨fun c => ⟨(h.1 c).2 _ (by simp), (h.1 c).2 _ (by simp), (h.1 c).2 _ (by simp), (h.1 c).2 _ (by simp), (h.1 c).2 _ (by simp), (h.1 c).2 _ (by simp)⟩, h.2⟩)
    (run_main (F := Ideal) m ρ fun d => flags_of_pre _ _ _ _ _ _ (h d))

/-- The reference's frame, over the reals. -/
theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The same under the precondition. -/
theorem frame_ref_pre : Cert.quiescent_ReferenceIdeal_pre_flags01 := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof.Route

end
-- ==== Proof.Value.lean ====
/-
  What the program leaves in its output: each token's row times the weights its flag selects, plus their bias.
-/
module

public import proofs.«01_k».proof.Proof.List17
public import Idealize.ShloMosaic.Lib.MatmulPlain
public import Idealize.ShloMosaic.Lib.StackMember
public import Idealize.ShloMosaic.Lib.Pipeline.Value
public import Idealize.ShloMosaic.Lib.ValueLayout
public import Idealize.ShloMosaic.Lib.ValueIdx

@[expose] public section

noncomputable section

namespace Cert.Proof.Route

open Cert.KernelIdeal Cert.KernelIdeal.Gen

open Idealize.ShloMosaic Idealize.ShloMosaic.ValueIdx
open Idealize.SL Idealize.SL.Sem
open Idealize.ShloMosaic.StableHlo

section Buffers

variable {F : FTy → Type} [FloatOps F]
variable (m : (ℓ : Loc nD τ sig) → Buf (Elt F) ℓ) (d : Dev nD)

/-! ## The buffers along the way -/

theorem V1c_other {r : Ref sig .tc} (hr : r ∉ [main_v0, main_v1, main_v2, main_v3, main_v4, main_v5, main_v6, main_v7, main_v8_0, main_v8_1]) : V1c m d (dr r) = m (d, dr r) := by
  simp only [List.mem_cons, List.not_mem_nil, not_or] at hr
  unfold V1c
  rw [Function.update_of_ne (dr_ne hr.2.2.2.2.2.2.2.2.2.1), Function.update_of_ne (dr_ne hr.2.2.2.2.2.2.2.2.1)]
  exact V1_other m d (by simp [hr])

/-- The tokens' sub-rows are the tokens, reshaped. -/
theorem XS_eq : XS m d = shapeCast S65536x2x128 (m ((SparseCore.T d).loc main_arg0) : S8192x2048.Idx → F .f32) shapeCasts_S8192x2048_S65536x2x128 := by
  unfold XS V2
  refine Eq.trans (b := shapeCast S65536x2x128 (V1c m d (dr main_arg0) : S8192x2048.Idx → F .f32) shapeCasts_S8192x2048_S65536x2x128) ?_
    (congrArg (fun f : S8192x2048.Idx → F .f32 => shapeCast S65536x2x128 f shapeCasts_S8192x2048_S65536x2x128) (V1c_other m d (r := main_arg0) (by decide)))
  unfold ops1
  after_results_simp
  rfl

/-- The padded rows are the scattered sub-rows, reshaped. -/
theorem XP_eq : XP m d = shapeCast S8448x2048 (Sc.SCAT (F := F) (XS m d) (PS m d) (D0 m d)) shapeCasts_S67584x2x128_S8448x2048 := by
  unfold XP V3
  refine Eq.trans (b := shapeCast S8448x2048 (V2c m d (dr main_v19) : S67584x2x128.Idx → F .f32) shapeCasts_S67584x2x128_S8448x2048) ?_
    (congrArg (fun f : S67584x2x128.Idx → F .f32 => shapeCast S8448x2048 f shapeCasts_S67584x2x128_S8448x2048) (by unfold V2c; rw [Function.update_self]))
  unfold ops2
  after_results_simp
  rfl

/-- The table is the number of blocks, plus zero. -/
theorem NB_eq : NB m d = fun _ => BitVec.ofNat 32 (nb (FL m d)) := by
  unfold NB V3
  refine Eq.trans (b := addi (V2c m d (dr main_v8_1) : S16.Idx → BitVec 32) (broadcastInDim S16 ![] bcast_S_S16 (constantI S_ 32 0#32))) ?_ ?_
  · unfold ops2
    after_results_simp
  · have h : V2c m d (dr main_v8_1) = Ro.NBLK (FL m d) := by
      unfold V2c V2
      rw [Function.update_of_ne (dr_ne (by decide)), ops1_other _ (by decide)]
      unfold V1c
      rw [Function.update_self]
    rw [h]
    funext i
    show BitVec.ofNat 32 (nb (FL m d)) + 0#32 = _
    rw [BitVec.add_zero]

theorem V3_of_V1 {r : Ref sig .tc} (h0 : r ∉ [main_v20, main_c_0, main_v21, main_v22]) (h1 : r ∉ [main_v9, main_c, main_v10, main_v11, main_v12, main_v13, main_v14, main_v15, main_v16, main_v17, main_v18])
    (h2 : r ∉ [main_v19, main_v8_0, main_v8_1]) : V3 m d (dr r) = V1 m d (dr r) := by
  simp only [List.mem_cons, List.not_mem_nil, not_or] at h2
  unfold V3 V2c V2 V1c
  rw [ops2_other _ h0, Function.update_of_ne (dr_ne h2.1), ops1_other _ h1, Function.update_of_ne (dr_ne h2.2.2.1), Function.update_of_ne (dr_ne h2.2.1)]

/-- The two weights, one after the other, rounded. -/
theorem WT_eq : WT m d = truncf .bf16 (concatenate S2x2048x2048 0
    [⟨S1x2048x2048, broadcastInDim S1x2048x2048 ![1, 2] bcast_S2048x2048_S1x2048x2048_1_2 (m ((SparseCore.T d).loc main_arg2) : S2048x2048.Idx → F .f32)⟩,
     ⟨S1x2048x2048, broadcastInDim S1x2048x2048 ![1, 2] bcast_S2048x2048_S1x2048x2048_1_2 (m ((SparseCore.T d).loc main_arg4) : S2048x2048.Idx → F .f32)⟩]
    concatenates_S1x2048x2048_S1x2048x2048_S2x2048x2048_d0) bitsLt_bf16_f32 := by
  unfold WT
  rw [V3_of_V1 m d (by decide) (by decide) (by decide)]
  unfold V1 ops0
  after_results_simp
  rfl

/-- The two biases, one after the other. -/
theorem BT_eq : BT m d = shapeCast S2x1x2048 (concatenate S2x2048 0
    [⟨S1x2048, broadcastInDim S1x2048 ![1] bcast_S2048_S1x2048_1 (m ((SparseCore.T d).loc main_arg3) : S2048.Idx → F .f32)⟩,
     ⟨S1x2048, broadcastInDim S1x2048 ![1] bcast_S2048_S1x2048_1 (m ((SparseCore.T d).loc main_arg5) : S2048.Idx → F .f32)⟩]
    concatenates_S1x2048_S1x2048_S2x2048_d0) shapeCasts_S2x2048_S2x1x2048 := by
  unfold BT
  rw [V3_of_V1 m d (by decide) (by decide) (by decide)]
  unfold V1 ops0
  after_results_simp
  rfl

/-- The product's sub-rows are the product, reshaped. -/
theorem OP_eq : OP m d = shapeCast S67584x2x128 (Mm.OUTP (F := F) (NB m d) (XP m d) (WT m d) (BT m d)) shapeCasts_S8448x2048_S67584x2x128 := by
  unfold OP V4
  refine Eq.trans (b := shapeCast S67584x2x128 (V3c m d (dr main_v23) : S8448x2048.Idx → F .f32) shapeCasts_S8448x2048_S67584x2x128) ?_
    (congrArg (fun f : S8448x2048.Idx → F .f32 => shapeCast S67584x2x128 f shapeCasts_S8448x2048_S67584x2x128) (by unfold V3c; rw [Function.update_self]))
  unfold ops3
  after_results_simp
  rfl

/-- The output is the gathered sub-rows, reshaped. -/
theorem V5_eq : V5 m d (dr main_v26) = shapeCast S8192x2048 (Ga.GATH (F := F) (OP m d) (PS m d)) shapeCasts_S65536x2x128_S8192x2048 := by
  unfold V5
  refine Eq.trans (b := shapeCast S8192x2048 (V4c m d (dr main_v25) : S65536x2x128.Idx → F .f32) shapeCasts_S65536x2x128_S8192x2048) ?_
    (congrArg (fun f : S65536x2x128.Idx → F .f32 => shapeCast S8192x2048 f shapeCasts_S65536x2x128_S8192x2048) (by unfold V4c; rw [Function.update_self]))
  unfold ops4
  after_results_simp
  rfl

/-! ## Rows and sub-rows -/

section Rows
variable {α : Type}

/-- Element `k` of row `r` is element `(k % 256 / 128, k % 128)` of sub-row `r * 8 + k / 256`, for each of the three numbers of rows. -/
theorem toRows8192 (f : S65536x2x128.Idx → α) (r : Fin 8192) (k : Fin 2048) :
    shapeCast S8192x2048 f shapeCasts_S65536x2x128_S8192x2048 (ix2 r k)
      = f (ix3 (⟨r.val * 8 + k.val / 256, by omega⟩ : Fin 65536) (⟨k.val % 256 / 128, by omega⟩ : Fin 2) (⟨k.val % 128, by omega⟩ : Fin 128)) := by
  unfold shapeCast
  refine congrArg f (Shape.reshapeEquiv_eq_of_rowMajor _ ?_)
  rw [Shape.rowMajor_val_three, Shape.rowMajor_val_two]
  show ((r.val * 8 + k.val / 256) * 2 + k.val % 256 / 128) * 128 + k.val % 128 = r.val * 2048 + k.val
  omega

theorem toRows8448 (f : S67584x2x128.Idx → α) (r : Fin 8448) (k : Fin 2048) :
    shapeCast S8448x2048 f shapeCasts_S67584x2x128_S8448x2048 (ix2 r k)
      = f (ix3 (⟨r.val * 8 + k.val / 256, by omega⟩ : Fin 67584) (⟨k.val % 256 / 128, by omega⟩ : Fin 2) (⟨k.val % 128, by omega⟩ : Fin 128)) := by
  unfold shapeCast
  refine congrArg f (Shape.reshapeEquiv_eq_of_rowMajor _ ?_)
  rw [Shape.rowMajor_val_three, Shape.rowMajor_val_two]
  show ((r.val * 8 + k.val / 256) * 2 + k.val % 256 / 128) * 128 + k.val % 128 = r.val * 2048 + k.val
  omega

theorem toSub8192 (f : S8192x2048.Idx → α) (r : Fin 8192) (k : Fin 2048) :
    shapeCast S65536x2x128 f shapeCasts_S8192x2048_S65536x2x128 (ix3 (⟨r.val * 8 + k.val / 256, by omega⟩ : Fin 65536) (⟨k.val % 256 / 128, by omega⟩ : Fin 2) (⟨k.val % 128, by omega⟩ : Fin 128))
      = f (ix2 r k) := by
  unfold shapeCast
  refine congrArg f (Shape.reshapeEquiv_eq_of_rowMajor _ ?_)
  rw [Shape.rowMajor_val_three, Shape.rowMajor_val_two]
  show r.val * 2048 + k.val = ((r.val * 8 + k.val / 256) * 2 + k.val % 256 / 128) * 128 + k.val % 128
  omega

theorem toSub8448 (f : S8448x2048.Idx → α) (r : Fin 8448) (k : Fin 2048) :
    shapeCast S67584x2x128 f shapeCasts_S8448x2048_S67584x2x128 (ix3 (⟨r.val * 8 + k.val / 256, by omega⟩ : Fin 67584) (⟨k.val % 256 / 128, by omega⟩ : Fin 2) (⟨k.val % 128, by omega⟩ : Fin 128))
      = f (ix2 r k) := by
  unfold shapeCast
  refine congrArg f (Shape.reshapeEquiv_eq_of_rowMajor _ ?_)
  rw [Shape.rowMajor_val_three, Shape.rowMajor_val_two]
  show r.val * 2048 + k.val = ((r.val * 8 + k.val / 256) * 2 + k.val % 256 / 128) * 128 + k.val % 128
  omega

end Rows

variable (hf : Flags (FL m d))

/-- The row token `t` is moved to. -/
abbrev rowOf (t : Fin 8192) : Fin 8448 := ⟨dest (FL m d) t.val, dest_lt hf t.isLt⟩

/-- Where the list sends sub-row `t * 8 + j`. -/
theorem sent (t : Fin 8192) (j : Fin 8) (r : Fin 512) (l : Fin 128) (h : t.val * 8 + j.val = 128 * r.val + l.val) :
    padRow (PS m d (ix2 r l)) = ⟨(rowOf m d hf t).val * 8 + j.val, by have := (rowOf m d hf t).isLt; omega⟩ := by
  refine Fin.ext ?_
  rw [padRow_val (PS_lt m d hf _), PS_host, HOSTL_toNat hf]
  show dest (FL m d) (16 * r.val + l.val / 8) * 8 + l.val % 8 = dest (FL m d) t.val * 8 + j.val
  rw [show 16 * r.val + l.val / 8 = t.val by omega, show l.val % 8 = j.val by omega]

/-- The row a token is moved to is the token's. -/
theorem XP_at (t : Fin 8192) (k : Fin 2048) : XP m d (ix2 (rowOf m d hf t) k) = (m ((SparseCore.T d).loc main_arg0) : S8192x2048.Idx → F .f32) (ix2 t k) := by
  have hk := k.isLt
  have ht := t.isLt
  rw [XP_eq, toRows8448]
  have e := sent m d hf t ⟨k.val / 256, by omega⟩ ⟨(t.val * 8 + k.val / 256) / 128, by omega⟩ ⟨(t.val * 8 + k.val / 256) % 128, by omega⟩ (by
    show t.val * 8 + k.val / 256 = 128 * ((t.val * 8 + k.val / 256) / 128) + (t.val * 8 + k.val / 256) % 128; omega)
  have h := Sc.SCAT_at (F := F) (XS m d) (PS m d) (PS_lt m d hf) (PS_inj m d hf) (D0 m d) ⟨(t.val * 8 + k.val / 256) / 128, by omega⟩ ⟨(t.val * 8 + k.val / 256) % 128, by omega⟩
    (⟨k.val % 256 / 128, by omega⟩ : Fin 2) (⟨k.val % 128, by omega⟩ : Fin 128)
  rw [e] at h
  refine h.trans ?_
  rw [XS_eq]
  refine Eq.trans ?_ (toSub8192 (m ((SparseCore.T d).loc main_arg0) : S8192x2048.Idx → F .f32) t k)
  refine congrArg _ (congrArg (fun q : Fin 65536 => (ix3 q _ _ : S65536x2x128.Idx)) (Fin.ext ?_))
  show 128 * ((t.val * 8 + k.val / 256) / 128) + (t.val * 8 + k.val / 256) % 128 = t.val * 8 + k.val / 256
  omega

/-- The output's row of a token is the product's row it was moved to. -/
theorem V5_at (t : Fin 8192) (n : Fin 2048) :
    (V5 m d (dr main_v26) : S8192x2048.Idx → F .f32) (ix2 t n) = Mm.OUTP (F := F) (NB m d) (XP m d) (WT m d) (BT m d) (ix2 (rowOf m d hf t) n) := by
  have hn := n.isLt
  have ht := t.isLt
  rw [V5_eq, toRows8192]
  unfold Ga.GATH
  have e := sent m d hf t ⟨n.val / 256, by omega⟩ ⟨(t.val * 8 + n.val / 256) / 128, by omega⟩ ⟨(t.val * 8 + n.val / 256) % 128, by omega⟩ (by
    show t.val * 8 + n.val / 256 = 128 * ((t.val * 8 + n.val / 256) / 128) + (t.val * 8 + n.val / 256) % 128; omega)
  refine Eq.trans (b := OP m d (ix3 (padRow (PS m d (ix2 (⟨(t.val * 8 + n.val / 256) / 128, by omega⟩ : Fin 512) (⟨(t.val * 8 + n.val / 256) % 128, by omega⟩ : Fin 128))))
    (⟨n.val % 256 / 128, by omega⟩ : Fin 2) (⟨n.val % 128, by omega⟩ : Fin 128))) rfl ?_
  rw [e, OP_eq]
  exact toSub8448 _ (rowOf m d hf t) n

include hf in
/-- The weights a token's row meets are the ones its flag selects. -/
theorem side_at (t : Fin 8192) : (Mm.sideOf (F := F) (NB m d) (Mm.ptOf (rowOf m d hf t))).val = if bit (FL m d) t.val = 1 then 0 else 1 := by
  have hb := dest_block hf t.isLt
  have hl := dest_lt hf t.isLt
  have hn := nb_le hf
  have hw : (BitVec.ofNat 32 (grid2.coords (Mm.ptOf (rowOf m d hf t)) 0).val).toNat = dest (FL m d) t.val / 256 := Mm.word_0 _
  have hN : (BitVec.ofNat 32 (nb (FL m d))).toNat = nb (FL m d) := by rw [BitVec.toNat_ofNat]; exact Nat.mod_eq_of_lt (by omega)
  have hs : Mm.side (F := F) (Mm.tab (NB m d)) (grid2.coords (Mm.ptOf (rowOf m d hf t)))
      = Scalar.select (BitVec.ofBool ((BitVec.ofNat 32 (nb (FL m d))).sle (BitVec.ofNat 32 (grid2.coords (Mm.ptOf (rowOf m d hf t)) 0).val))) 1#32 0#32 := by
    unfold Mm.side
    rw [NB_eq]
    rfl
  show (Mm.side (F := F) (Mm.tab (NB m d)) (grid2.coords (Mm.ptOf (rowOf m d hf t)))).toNat = _
  rw [hs]
  have h31 : (BitVec.ofNat 32 (nb (FL m d))).sle (BitVec.ofNat 32 (grid2.coords (Mm.ptOf (rowOf m d hf t)) 0).val) = decide (nb (FL m d) ≤ dest (FL m d) t.val / 256) := by
    rw [BitVec.sle_eq_decide, BitVec.toInt_eq_toNat_of_lt (by omega), BitVec.toInt_eq_toNat_of_lt (by omega), hw, hN]
    exact decide_eq_decide.mpr (by omega)
  rw [h31]
  by_cases h : bit (FL m d) t.val = 1
  · rw [if_pos h, decide_eq_false (by omega)]; rfl
  · rw [if_neg h, decide_eq_true (by omega)]; rfl

end Buffers

section Blocks
variable {α : Type}

/-- A block's leading axes of one, dropped. -/
theorem cast_same (f : S256x2048.Idx → α) (r : Fin 256) (k : Fin 2048) : shapeCast S256x2048 f shapeCasts_S256x2048_S256x2048 (ix2 r k) = f (ix2 r k) := by
  unfold shapeCast
  exact congrArg f (Shape.reshapeEquiv_eq_of_rowMajor _ rfl)

theorem cast_w (f : S1x2048x2048.Idx → α) (n k : Fin 2048) : shapeCast S2048x2048 f shapeCasts_S1x2048x2048_S2048x2048 (ix2 n k) = f (ix3 (0 : Fin 1) n k) := by
  unfold shapeCast
  refine congrArg f (Shape.reshapeEquiv_eq_of_rowMajor _ ?_)
  rw [Shape.rowMajor_val_three, Shape.rowMajor_val_two]
  show (0 * 2048 + n.val) * 2048 + k.val = n.val * 2048 + k.val
  omega

theorem cast_b (f : S1x1x2048.Idx → α) (n : Fin 2048) : shapeCast S1x2048 f shapeCasts_S1x1x2048_S1x2048 (ix2 (0 : Fin 1) n) = f (ix3 (0 : Fin 1) (0 : Fin 1) n) := by
  unfold shapeCast
  refine congrArg f (Shape.reshapeEquiv_eq_of_rowMajor _ ?_)
  rw [Shape.rowMajor_val_three, Shape.rowMajor_val_two]
  show (0 * 1 + 0) * 2048 + n.val = 0 * 2048 + n.val
  omega

theorem cast_bs (f : S2x2048.Idx → α) (s : Fin 2) (n : Fin 2048) : shapeCast S2x1x2048 f shapeCasts_S2x2048_S2x1x2048 (ix3 s (0 : Fin 1) n) = f (ix2 s n) := by
  unfold shapeCast
  refine congrArg f (Shape.reshapeEquiv_eq_of_rowMajor _ ?_)
  rw [Shape.rowMajor_val_three, Shape.rowMajor_val_two]
  show s.val * 2048 + n.val = (s.val * 1 + 0) * 2048 + n.val
  omega

/-- Two matrices one after the other: the first, then the second. -/
theorem pair_w (A B : S2048x2048.Idx → α) (s : Fin 2) (n k : Fin 2048) :
    concatenate S2x2048x2048 0 [⟨S1x2048x2048, broadcastInDim S1x2048x2048 ![1, 2] bcast_S2048x2048_S1x2048x2048_1_2 A⟩,
     ⟨S1x2048x2048, broadcastInDim S1x2048x2048 ![1, 2] bcast_S2048x2048_S1x2048x2048_1_2 B⟩] concatenates_S1x2048x2048_S1x2048x2048_S2x2048x2048_d0 (ix3 s n k)
      = if s.val = 0 then A (ix2 n k) else B (ix2 n k) := by
  by_cases h : s.val = 0
  · rw [if_pos h]
    refine (concatenate_pair_apply_left _ _ _ concatenates_S1x2048x2048_S1x2048x2048_S2x2048x2048_d0 (ix3 s n k) rfl (ix3 (0 : Fin 1) n k) ?_).trans ?_
    · intro b; fin_cases b
      · exact h.symm
      · rfl
      · rfl
    · refine broadcastInDim_apply (s := S2048x2048) (t := S1x2048x2048) ![1, 2] _ A _ (ix2 n k) ?_
      intro a; fin_cases a <;> rfl
  · have hs : s.val = 1 := by have := s.isLt; omega
    rw [if_neg h]
    refine (concatenate_pair_apply_right _ _ _ concatenates_S1x2048x2048_S1x2048x2048_S2x2048x2048_d0 (ix3 s n k) rfl rfl (ix3 (0 : Fin 1) n k) ?_ ?_).trans ?_
    · intro b hb; fin_cases b
      · exact absurd rfl hb
      · rfl
      · rfl
    · show 0 + 1 = s.val
      omega
    · refine broadcastInDim_apply (s := S2048x2048) (t := S1x2048x2048) ![1, 2] _ B _ (ix2 n k) ?_
      intro a; fin_cases a <;> rfl

/-- Two rows one after the other: the first, then the second. -/
theorem pair_b (A B : S2048.Idx → α) (s : Fin 2) (n : Fin 2048) :
    concatenate S2x2048 0 [⟨S1x2048, broadcastInDim S1x2048 ![1] bcast_S2048_S1x2048_1 A⟩, ⟨S1x2048, broadcastInDim S1x2048 ![1] bcast_S2048_S1x2048_1 B⟩]
      concatenates_S1x2048_S1x2048_S2x2048_d0 (ix2 s n) = if s.val = 0 then A (ix1 n) else B (ix1 n) := by
  by_cases h : s.val = 0
  · rw [if_pos h]
    refine (concatenate_pair_apply_left _ _ _ concatenates_S1x2048_S1x2048_S2x2048_d0 (ix2 s n) rfl (ix2 (0 : Fin 1) n) ?_).trans ?_
    · intro b; fin_cases b
      · exact h.symm
      · rfl
    · refine broadcastInDim_apply (s := S2048) (t := S1x2048) ![1] _ A _ (ix1 n) ?_
      intro a; fin_cases a; rfl
  · have hs : s.val = 1 := by have := s.isLt; omega
    rw [if_neg h]
    refine (concatenate_pair_apply_right _ _ _ concatenates_S1x2048_S1x2048_S2x2048_d0 (ix2 s n) rfl rfl (ix2 (0 : Fin 1) n) ?_ ?_).trans ?_
    · intro b hb; fin_cases b
      · exact absurd rfl hb
      · rfl
    · show 0 + 1 = s.val
      omega
    · refine broadcastInDim_apply (s := S2048) (t := S1x2048) ![1] _ B _ (ix1 n) ?_
      intro a; fin_cases a; rfl

end Blocks

section Reals

/-- The kernel's block, read at an element: a row times a row of the weights, plus the bias. -/
theorem pay_at (v0 : S256x2048.Idx → EReal) (v3 : S1x2048x2048.Idx → EReal) (v6 : S1x1x2048.Idx → EReal) (r : Fin 256) (n : Fin 2048) :
    k2_pay1 (F := Ideal) v0 v3 v6 (ix2 r n) = (∑ k : Fin 2048, v0 (ix2 r k) * v3 (ix3 (0 : Fin 1) n k)) + v6 (ix3 (0 : Fin 1) (0 : Fin 1) n) := by
  have hm := Ideal.matmul_transposedRhs_apply (M := 256) (K := 2048) (N := 2048) (φ₁ := .bf16) (φ₂ := .bf16) none
    (shapeCast S256x2048 v0 shapeCasts_S256x2048_S256x2048) (shapeCast S2048x2048 v3 shapeCasts_S1x2048x2048_S2048x2048) (constant (F := Ideal) S256x2048 .f32 0x00000000#32) r n
  have hz : constant (F := Ideal) S256x2048 .f32 0x00000000#32 (ix2 r n) = (0 : EReal) := Ideal.ofBits_zero_f32
  have hb := broadcastTo_1b_ab_apply (shapeCast S1x2048 v6 shapeCasts_S1x1x2048_S1x2048) broadcasts_S1x2048_S256x2048 r n
  rw [hz, zero_add] at hm
  rw [cast_b] at hb
  unfold k2_pay1
  refine (congrArg₂ (fun a b : EReal => a + b) hm hb).trans ?_
  refine congrArg (fun a : EReal => a + v6 (ix3 (0 : Fin 1) (0 : Fin 1) n)) (Finset.sum_congr rfl fun k _ => ?_)
  rw [cast_same, cast_w]

/-- One head at a token: its row times the head's weights, plus the head's bias. -/
def head (x : S8192x2048.Idx → EReal) (w : S2048x2048.Idx → EReal) (b : S2048.Idx → EReal) (t : Fin 8192) (n : Fin 2048) : EReal :=
  (∑ k : Fin 2048, x (ix2 t k) * w (ix2 n k)) + b (ix1 n)

variable (m : (ℓ : Loc nD τ sig) → Buf (Elt Ideal) ℓ) (d : Dev nD) (hf : Flags (FL m d))

include hf in
/-- The kernel's output at a token: the head its flag selects. -/
theorem out_at (t : Fin 8192) (n : Fin 2048) :
    (V5 m d (dr main_v26) : S8192x2048.Idx → EReal) (ix2 t n)
      = if bit (FL m d) t.val = 1 then head (m ((SparseCore.T d).loc main_arg0)) (m ((SparseCore.T d).loc main_arg2)) (m ((SparseCore.T d).loc main_arg3)) t n
        else head (m ((SparseCore.T d).loc main_arg0)) (m ((SparseCore.T d).loc main_arg4)) (m ((SparseCore.T d).loc main_arg5)) t n := by
  refine (V5_at m d hf t n).trans ?_
  have hs := side_at (F := Ideal) m d hf t
  unfold Mm.OUTP
  refine (pay_at _ _ _ _ _).trans ?_
  have hx : ∀ k : Fin 2048, Mm.xb (XP m d) (Mm.ptOf (rowOf m d hf t)) (ix2 (⟨(rowOf m d hf t).val % 256, Nat.mod_lt _ (by norm_num)⟩ : Fin 256) k)
      = (m ((SparseCore.T d).loc main_arg0) : S8192x2048.Idx → EReal) (ix2 t k) := fun k => by
    refine Eq.trans ?_ (XP_at m d hf t k)
    unfold Mm.xb
    refine congrArg (XP m d) (congrArg (fun q : Fin 8448 => (ix2 q k : S8448x2048.Idx)) (Fin.ext ?_))
    show (rowOf m d hf t).val / 256 * 256 + (rowOf m d hf t).val % 256 = (rowOf m d hf t).val
    omega
  have hw : ∀ (s : Fin 2) (k : Fin 2048), Mm.wb (WT m d) s (ix3 (0 : Fin 1) n k)
      = if s.val = 0 then (m ((SparseCore.T d).loc main_arg2) : S2048x2048.Idx → EReal) (ix2 n k) else (m ((SparseCore.T d).loc main_arg4) : S2048x2048.Idx → EReal) (ix2 n k) := fun s k => by
    unfold Mm.wb
    rw [WT_eq]
    exact pair_w _ _ s n k
  have hb : ∀ s : Fin 2, Mm.bb (BT m d) s (ix3 (0 : Fin 1) (0 : Fin 1) n)
      = if s.val = 0 then (m ((SparseCore.T d).loc main_arg3) : S2048.Idx → EReal) (ix1 n) else (m ((SparseCore.T d).loc main_arg5) : S2048.Idx → EReal) (ix1 n) := fun s => by
    unfold Mm.bb
    rw [BT_eq]
    exact (cast_bs _ s n).trans (pair_b _ _ s n)
  refine (congrArg₂ (fun a b : EReal => a + b) (Finset.sum_congr rfl fun k _ => congrArg₂ (fun a b : EReal => a * b) (hx k) (hw _ k)) (hb _)).trans ?_
  unfold head
  by_cases h : bit (FL m d) t.val = 1
  · rw [if_pos h] at hs
    rw [if_pos h]
    refine congrArg₂ (fun a b : EReal => a + b) (Finset.sum_congr rfl fun k _ => congrArg (fun b : EReal => _ * b) (if_pos hs)) (if_pos hs)
  · rw [if_neg h] at hs
    rw [if_neg h]
    have hs0 : ¬(Mm.sideOf (F := Ideal) (NB m d) (Mm.ptOf (rowOf m d hf t))).val = 0 := by rw [hs]; exact Nat.one_ne_zero
    refine congrArg₂ (fun a b : EReal => a + b) (Finset.sum_congr rfl fun k _ => congrArg (fun b : EReal => _ * b) (if_neg hs0)) (if_neg hs0)

end Reals

end Cert.Proof.Route

end
-- ==== Proof.RefValue.lean ====
/-
  What the reference computes: at each token the head its flag selects.
-/
module

public import proofs.«01_k».proof.Proof.Value
public import proofs.«01_k».proof.Proof.Gen.ReferenceIdeal.Run
public import Idealize.ShloMosaic.Lib.KernelVsHost

@[expose] public section

noncomputable section

namespace Cert.Proof.Route

open Cert.ReferenceIdeal Cert.ReferenceIdeal.Gen

open Idealize.ShloMosaic Idealize.ShloMosaic.ValueIdx
open Idealize.SL Idealize.SL.Sem
open Idealize.ShloMosaic.StableHlo

/-- The reference's head for all tokens: the tokens times the transposed weights, plus the bias on every row. -/
def refHead (x : S8192x2048.Idx → EReal) (w : S2048x2048.Idx → EReal) (b : S2048.Idx → EReal) : S8192x2048.Idx → EReal :=
  addf (F := Ideal) (φ := .f32)
    (Host.dotGeneral (F := Ideal) (φ₁ := .f32) (φ₂ := .f32) dot_S8192x2048_S2048x2048_S8192x2048_1_0_0_1_n_n none x (transpose S2048x2048 [1, 0] w transposes_S2048x2048_S2048x2048_1_0))
    (broadcastInDim S8192x2048 ![0, 1] bcast_S1x2048_S8192x2048_0_1 (broadcastInDim S1x2048 ![1] bcast_S2048_S1x2048_1 b))

/-- The reference's result: the first head where a flag is one, the second elsewhere. -/
def refOut (x : S8192x2048.Idx → EReal) (fl : S8192.Idx → BitVec 32) (w1 : S2048x2048.Idx → EReal) (b1 : S2048.Idx → EReal) (w2 : S2048x2048.Idx → EReal) (b2 : S2048.Idx → EReal) :
    S8192x2048.Idx → EReal :=
  select (broadcastInDim S8192x2048 ![0, 1] bcast_S8192x1_S8192x2048_0_1 (broadcastInDim S8192x1 ![0] bcast_S8192_S8192x1_0
    (cmpi .eq fl (broadcastInDim S8192 ![] bcast_S_S8192 (constantI S_ 32 1#32))))) (refHead x w1 b1) (refHead x w2 b2)

theorem refHead_at (x : S8192x2048.Idx → EReal) (w : S2048x2048.Idx → EReal) (b : S2048.Idx → EReal) (t : Fin 8192) (n : Fin 2048) :
    refHead x w b (ix2 t n) = head x w b t n := by
  have hd := Idealize.ShloMosaic.StackMember.dotGeneral_plain_apply (m := 8192) (k := 2048) (n := 2048) (φ₁ := .f32) (φ₂ := .f32) none x (transpose S2048x2048 [1, 0] w transposes_S2048x2048_S2048x2048_1_0) t n
  have hb : broadcastInDim S8192x2048 ![0, 1] bcast_S1x2048_S8192x2048_0_1 (broadcastInDim S1x2048 ![1] bcast_S2048_S1x2048_1 b) (ix2 t n) = b (ix1 n) := by
    refine (broadcastInDim_oneRow_apply _ _ t n).trans ?_
    refine broadcastInDim_apply (s := S2048) (t := S1x2048) ![1] _ b _ (ix1 n) ?_
    intro a; fin_cases a; rfl
  have ht : ∀ k : Fin 2048, transpose S2048x2048 [1, 0] w transposes_S2048x2048_S2048x2048_1_0 (ix2 k n) = w (ix2 n k) := fun k => by
    refine transpose_apply (s := S2048x2048) (t := S2048x2048) [1, 0] w _ _ (ix2 n k) ?_
    intro a; fin_cases a <;> rfl
  unfold refHead head
  refine (congrArg₂ (fun a b : EReal => a + b) hd hb).trans ?_
  exact congrArg (fun a : EReal => a + b (ix1 n)) (Finset.sum_congr rfl fun k _ => congrArg (fun b : EReal => _ * b) (ht k))

theorem refOut_at (x : S8192x2048.Idx → EReal) (fl : S8192.Idx → BitVec 32) (w1 : S2048x2048.Idx → EReal) (b1 : S2048.Idx → EReal) (w2 : S2048x2048.Idx → EReal) (b2 : S2048.Idx → EReal)
    (t : Fin 8192) (n : Fin 2048) :
    refOut x fl w1 b1 w2 b2 (ix2 t n) = if bit fl t.val = 1 then head x w1 b1 t n else head x w2 b2 t n := by
  have hm : broadcastInDim S8192x2048 ![0, 1] bcast_S8192x1_S8192x2048_0_1 (broadcastInDim S8192x1 ![0] bcast_S8192_S8192x1_0
      (cmpi .eq fl (broadcastInDim S8192 ![] bcast_S_S8192 (constantI S_ 32 1#32)))) (ix2 t n) = BitVec.ofBool (fl (ix1 t) == 1#32) := by
    refine (broadcastInDim_apply (s := S8192x1) (t := S8192x2048) ![0, 1] _ _ _ (ix2 t (0 : Fin 1)) ?_).trans ?_
    · intro a; fin_cases a <;> rfl
    refine (broadcastInDim_apply (s := S8192) (t := S8192x1) ![0] _ _ _ (ix1 t) ?_).trans ?_
    · intro a; fin_cases a; rfl
    rfl
  unfold refOut select
  rw [hm, refHead_at, refHead_at]
  have hbit : bit fl t.val = (fl (ix1 t)).toNat := by unfold bit; rw [dif_pos t.isLt]
  by_cases h : fl (ix1 t) = 1#32
  · have hb : bit fl t.val = 1 := by rw [hbit, h]; rfl
    rw [if_pos hb, h]; rfl
  · have hb : ¬ bit fl t.val = 1 := by rw [hbit]; exact fun e => h (BitVec.eq_of_toNat_eq (by rw [e]; rfl))
    rw [if_neg hb, beq_false_of_ne h]; rfl

/-- The kernel's output is the reference's result of the same arguments. -/
theorem out_eq (m : (ℓ : Loc Cert.KernelIdeal.nD Cert.KernelIdeal.τ Cert.KernelIdeal.sig) → Buf (Elt Ideal) ℓ) (d : Dev Cert.KernelIdeal.nD) (hf : Flags (FL m d)) :
    (V5 m d (dr Cert.KernelIdeal.main_v26) : S8192x2048.Idx → EReal)
      = refOut (m ((SparseCore.T d).loc Cert.KernelIdeal.main_arg0)) (m ((SparseCore.T d).loc Cert.KernelIdeal.main_arg1)) (m ((SparseCore.T d).loc Cert.KernelIdeal.main_arg2))
        (m ((SparseCore.T d).loc Cert.KernelIdeal.main_arg3)) (m ((SparseCore.T d).loc Cert.KernelIdeal.main_arg4)) (m ((SparseCore.T d).loc Cert.KernelIdeal.main_arg5)) := by
  funext j
  rw [eq_ix2 j]
  exact (out_at m d hf (j 0) (j 1)).trans (refOut_at _ _ _ _ _ _ (j 0) (j 1)).symm

end Cert.Proof.Route

end
-- ==== Proof.Algebraic.lean ====
/-
  The kernel over the reals leaves what the reference leaves.
-/
module

public import proofs.«01_k».proof.Proof.Frames
public import proofs.«01_k».proof.Proof.RefValue

@[expose] public section

noncomputable section

namespace Cert.Proof.Route

open Idealize.ShloMosaic Idealize.ShloMosaic.TcCoe Idealize.SL.Sem

/-- Where every flag is zero or one, the kernel and the reference, run from the same arguments, leave the same result. -/
theorem algebraic : Cert.algebraic_KernelIdeal_ReferenceIdeal := fun m ρ m' ρ' hp ha => by
  have hf : ∀ d, Flags (FL m d) := fun d => flags_of_pre _ _ _ _ _ _ (hp d)
  refine ⟨fun c => V5 m c (dr Cert.KernelIdeal.main_v26), ?_, ?_⟩
  · exact (θ_run (Cert.KernelIdeal.defs (F := Ideal)) _ _).mono
      (fun _ h c => ⟨(h.1 c).1, (h.1 c).2 _ (by simp), (h.1 c).2 _ (by simp), (h.1 c).2 _ (by simp), (h.1 c).2 _ (by simp), (h.1 c).2 _ (by simp), (h.1 c).2 _ (by simp)⟩)
      (run_main (F := Ideal) m ρ hf)
  · refine (θ_run Cert.ReferenceIdeal.defs _ _).mono (fun r h c => ⟨?_, (h c).2⟩) (Cert.ReferenceIdeal.Value.run (F := Ideal) m' ρ')
    obtain ⟨h0, h1, h2, h3, h4, h5⟩ := ha c
    refine (h c).1.trans (Eq.trans ?_ (out_eq m c (hf c)).symm)
    rw [h0, h1, h2, h3, h4, h5]
    rfl

end Cert.Proof.Route

end
-- ==== Proof.lean ====
/-
  The certificate: the kernel, its idealized program and the reference each run to completion with their arguments
  unchanged and every semaphore at zero, and over the reals the kernel leaves what the reference leaves. The kernel's
  claims hold where every flag is zero or one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_flags01
public import proofs.«01_k».proof.Proof.Frames
public import proofs.«01_k».proof.Proof.Algebraic
public import Idealize.ShloMosaic.Adequacy
public import Idealize.ShloMosaic.Init

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_flags01.Gen.facts,
  Route.frame_kernel, Route.frame_ideal, Route.frame_ref, Route.frame_ref_pre, trivial, Route.algebraic⟩

end Cert.Proof

end
